-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)) (v7 : (c : Dev Cert.KernelIdeal.nD) → Buf (Elt Ideal) ((c.tc : Thread Cert.KernelIdeal.nD Cert.KernelIdeal.τ).loc Cert.KernelIdeal.main_v1_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_v1_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52_0) = v0 c
          ∧ r.2.mem ((c.tc : Thread Cert.ReferenceIdeal.nD Cert.ReferenceIdeal.τ).loc Cert.ReferenceIdeal.main_v52_1) = v1 c
          ∧ r.2.mem ((c.tc : Thread Cert.ReferenceIdeal.nD Cert.ReferenceIdeal.τ).loc Cert.ReferenceIdeal.main_v52_2) = v2 c
          ∧ r.2.mem ((c.tc : Thread Cert.ReferenceIdeal.nD Cert.ReferenceIdeal.τ).loc Cert.ReferenceIdeal.main_v52_3) = v3 c
          ∧ r.2.mem ((c.tc : Thread Cert.ReferenceIdeal.nD Cert.ReferenceIdeal.τ).loc Cert.ReferenceIdeal.main_v52_4) = v4 c
          ∧ r.2.mem ((c.tc : Thread Cert.ReferenceIdeal.nD Cert.ReferenceIdeal.τ).loc Cert.ReferenceIdeal.main_v52_5) = v5 c
          ∧ r.2.mem ((c.tc : Thread Cert.ReferenceIdeal.nD Cert.ReferenceIdeal.τ).loc Cert.ReferenceIdeal.main_v52_6) = v6 c
          ∧ r.2.mem ((c.tc : Thread Cert.ReferenceIdeal.nD Cert.ReferenceIdeal.τ).loc Cert.ReferenceIdeal.main_v52_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x1024 : Shape := ⟨3, ![8, 256, 1024]⟩
abbrev S1024 : Shape := ⟨1, ![1024]⟩
abbrev S512x6912 : Shape := ⟨2, ![512, 6912]⟩
abbrev S8x6912 : Shape := ⟨2, ![8, 6912]⟩
abbrev S1408x1024 : Shape := ⟨2, ![1408, 1024]⟩
abbrev S22x1024 : Shape := ⟨2, ![22, 1024]⟩
abbrev S1x1024 : Shape := ⟨2, ![1, 1024]⟩
abbrev S8x1024x256 : Shape := ⟨3, ![8, 1024, 256]⟩
abbrev S8x128x256 : Shape := ⟨3, ![8, 128, 256]⟩
abbrev S8x256 : Shape := ⟨2, ![8, 256]⟩
abbrev S8x256x2816 : Shape := ⟨3, ![8, 256, 2816]⟩
abbrev S1x256x1024 : Shape := ⟨3, ![1, 256, 1024]⟩
abbrev S1x1024x256 : Shape := ⟨3, ![1, 1024, 256]⟩
abbrev S1x128x256 : Shape := ⟨3, ![1, 128, 256]⟩
abbrev S1x256x2816 : Shape := ⟨3, ![1, 256, 2816]⟩
abbrev S1024x6912 : Shape := ⟨2, ![1024, 6912]⟩
abbrev S2816x1024 : Shape := ⟨2, ![2816, 1024]⟩
abbrev S256x2816 : Shape := ⟨2, ![256, 2816]⟩
abbrev S64x256 : Shape := ⟨2, ![64, 256]⟩
abbrev S1x256 : Shape := ⟨2, ![1, 256]⟩
abbrev S128x256 : Shape := ⟨2, ![128, 256]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S1024x256 : Shape := ⟨2, ![1024, 256]⟩
abbrev S1x256x256 : Shape := ⟨3, ![1, 256, 256]⟩
abbrev S2816x256 : Shape := ⟨2, ![2816, 256]⟩

abbrev nBuf : Space → Nat
  | .hbm => 15
  | .vmem => 24
  | .smem => 0
  | _ => 0

abbrev bufTy : (tb : Table) → Fin (tcTables nBuf tb) → BufTy
  | .hbm, ⟨0, _⟩ => ⟨S8x256x1024, .bf16⟩
  | .hbm, ⟨1, _⟩ => ⟨S1024, .f32⟩
  | .hbm, ⟨2, _⟩ => ⟨S512x6912, .i8⟩
  | .hbm, ⟨3, _⟩ => ⟨S8x6912, .f32⟩
  | .hbm, ⟨4, _⟩ => ⟨S1408x1024, .i8⟩
  | .hbm, ⟨5, _⟩ => ⟨S22x1024, .f32⟩
  | .hbm, ⟨6, _⟩ => ⟨S1x1024, .f32⟩
  | .hbm, ⟨7, _⟩ => ⟨S8x1024x256, .bf16⟩
  | .hbm, ⟨8, _⟩ => ⟨S8x128x256, .bf16⟩
  | .hbm, ⟨9, _⟩ => ⟨S8x128x256, .bf16⟩
  | .hbm, ⟨10, _⟩ => ⟨S8x256x1024, .bf16⟩
  | .hbm, ⟨11, _⟩ => ⟨S8x256x1024, .fp8e4m3⟩
  | .hbm, ⟨12, _⟩ => ⟨S8x256, .f32⟩
  | .hbm, ⟨13, _⟩ => ⟨S8x256x2816, .fp8e4m3⟩
  | .hbm, ⟨14, _⟩ => ⟨S8x256, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024, .f32⟩
  | .local _ .vmem, ⟨3, _⟩ => ⟨S512x6912, .i8⟩
  | .local _ .vmem, ⟨4, _⟩ => ⟨S8x6912, .f32⟩
  | .local _ .vmem, ⟨5, _⟩ => ⟨S1408x1024, .i8⟩
  | .local _ .vmem, ⟨6, _⟩ => ⟨S22x1024, .f32⟩
  | .local _ .vmem, ⟨7, _⟩ => ⟨S1x1024x256, .bf16⟩
  | .local _ .vmem, ⟨8, _⟩ => ⟨S1x1024x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .fp8e4m3⟩
  | .local _ .vmem, ⟨16, _⟩ => ⟨S1x256x1024, .fp8e4m3⟩
  | .local _ .vmem, ⟨17, _⟩ => ⟨S8x256, .f32⟩
  | .local _ .vmem, ⟨18, _⟩ => ⟨S1x256x2816, .fp8e4m3⟩
  | .local _ .vmem, ⟨19, _⟩ => ⟨S1x256x2816, .fp8e4m3⟩
  | .local _ .vmem, ⟨20, _⟩ => ⟨S8x256, .f32⟩
  | .local _ .vmem, ⟨21, _⟩ => ⟨S1024x6912, .bf16⟩
  | .local _ .vmem, ⟨22, _⟩ => ⟨S2816x1024, .bf16⟩
  | .local _ .vmem, ⟨23, _⟩ => ⟨S256x2816, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩
abbrev main_v1_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v124 : Index := Scalar.indexCast arg0
  let c0_31 : Index := 0#32
  ![v124.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x6912 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x6912 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1408x1024 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S22x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1024 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x256x2816 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8x256x1024 : Shape := ⟨3, ![8, 256, 1024]⟩
abbrev S1024 : Shape := ⟨1, ![1024]⟩
abbrev S512x6912 : Shape := ⟨2, ![512, 6912]⟩
abbrev S8x6912 : Shape := ⟨2, ![8, 6912]⟩
abbrev S1408x1024 : Shape := ⟨2, ![1408, 1024]⟩
abbrev S22x1024 : Shape := ⟨2, ![22, 1024]⟩
abbrev S_ : Shape := ⟨0, ![]⟩
abbrev S512x1x6912 : Shape := ⟨3, ![512, 1, 6912]⟩
abbrev S512x2x6912 : Shape := ⟨3, ![512, 2, 6912]⟩
abbrev S1024x6912 : Shape := ⟨2, ![1024, 6912]⟩
abbrev S8x128x6912 : Shape := ⟨3, ![8, 128, 6912]⟩
abbrev S8x1x6912 : Shape := ⟨3, ![8, 1, 6912]⟩
abbrev S1408x1x1024 : Shape := ⟨3, ![1408, 1, 1024]⟩
abbrev S1408x2x1024 : Shape := ⟨3, ![1408, 2, 1024]⟩
abbrev S2816x1024 : Shape := ⟨2, ![2816, 1024]⟩
abbrev S22x128x1024 : Shape := ⟨3, ![22, 128, 1024]⟩
abbrev S22x1x1024 : Shape := ⟨3, ![22, 1, 1024]⟩
abbrev S8x1024x256 : Shape := ⟨3, ![8, 1024, 256]⟩
abbrev S8x128x256 : Shape := ⟨3, ![8, 128, 256]⟩
abbrev S8x256 : Shape := ⟨2, ![8, 256]⟩
abbrev S8x256x2816 : Shape := ⟨3, ![8, 256, 2816]⟩
abbrev S8x256x1 : Shape := ⟨3, ![8, 256, 1]⟩
abbrev S1x1x1024 : Shape := ⟨3, ![1, 1, 1024]⟩
abbrev S2048x1024 : Shape := ⟨2, ![2048, 1024]⟩
abbrev S2048x6912 : Shape := ⟨2, ![2048, 6912]⟩
abbrev S8x256x6912 : Shape := ⟨3, ![8, 256, 6912]⟩
abbrev S8x256x128 : Shape := ⟨3, ![8, 256, 128]⟩
abbrev S2048x2816 : Shape := ⟨2, ![2048, 2816]⟩

abbrev nBuf : Space → Nat
  | .hbm => 78
  | .vmem => 12
  | .smem => 0
  | _ => 0

abbrev bufTy : (tb : Table) → Fin (tcTables nBuf tb) → BufTy
  | .hbm, ⟨0, _⟩ => ⟨S8x256x1024, .bf16⟩
  | .hbm, ⟨1, _⟩ => ⟨S1024, .f32⟩
  | .hbm, ⟨2, _⟩ => ⟨S512x6912, .i8⟩
  | .hbm, ⟨3, _⟩ => ⟨S8x6912, .f32⟩
  | .hbm, ⟨4, _⟩ => ⟨S1408x1024, .i8⟩
  | .hbm, ⟨5, _⟩ => ⟨S22x1024, .f32⟩
  | .hbm, ⟨6, _⟩ => ⟨S512x6912, .i32⟩
  | .hbm, ⟨7, _⟩ => ⟨S_, .i32⟩
  | .hbm, ⟨8, _⟩ => ⟨S512x6912, .i32⟩
  | .hbm, ⟨9, _⟩ => ⟨S512x6912, .i32⟩
  | .hbm, ⟨10, _⟩ => ⟨S_, .i32⟩
  | .hbm, ⟨11, _⟩ => ⟨S512x6912, .i32⟩
  | .hbm, ⟨12, _⟩ => ⟨S512x6912, .i1⟩
  | .hbm, ⟨13, _⟩ => ⟨S_, .i32⟩
  | .hbm, ⟨14, _⟩ => ⟨S512x6912, .i32⟩
  | .hbm, ⟨15, _⟩ => ⟨S512x6912, .i32⟩
  | .hbm, ⟨16, _⟩ => ⟨S512x6912, .i32⟩
  | .hbm, ⟨17, _⟩ => ⟨S_, .i32⟩
  | .hbm, ⟨18, _⟩ => ⟨S512x6912, .i32⟩
  | .hbm, ⟨19, _⟩ => ⟨S512x6912, .i32⟩
  | .hbm, ⟨20, _⟩ => ⟨S_, .i32⟩
  | .hbm, ⟨21, _⟩ => ⟨S512x6912, .i32⟩
  | .hbm, ⟨22, _⟩ => ⟨S512x6912, .i1⟩
  | .hbm, ⟨23, _⟩ => ⟨S_, .i32⟩
  | .hbm, ⟨24, _⟩ => ⟨S512x6912, .i32⟩
  | .hbm, ⟨25, _⟩ => ⟨S512x6912, .i32⟩
  | .hbm, ⟨26, _⟩ => ⟨S512x6912, .i32⟩
  | .hbm, ⟨27, _⟩ => ⟨S512x1x6912, .i32⟩
  | .hbm, ⟨28, _⟩ => ⟨S512x1x6912, .i32⟩
  | .hbm, ⟨29, _⟩ => ⟨S512x2x6912, .i32⟩
  | .hbm, ⟨30, _⟩ => ⟨S1024x6912, .i32⟩
  | .hbm, ⟨31, _⟩ => ⟨S1024x6912, .bf16⟩
  | .hbm, ⟨32, _⟩ => ⟨S8x128x6912, .bf16⟩
  | .hbm, ⟨33, _⟩ => ⟨S8x6912, .bf16⟩
  | .hbm, ⟨34, _⟩ => ⟨S8x1x6912, .bf16⟩
  | .hbm, ⟨35, _⟩ => ⟨S8x128x6912, .bf16⟩
  | .hbm, ⟨36, _⟩ => ⟨S8x128x6912, .bf16⟩
  | .hbm, ⟨37, _⟩ => ⟨S1024x6912, .bf16⟩
  | .hbm, ⟨38, _⟩ => ⟨S1408x1024, .i32⟩
  | .hbm, ⟨39, _⟩ => ⟨S_, .i32⟩
  | .hbm, ⟨40, _⟩ => ⟨S1408x1024, .i32⟩
  | .hbm, ⟨41, _⟩ => ⟨S1408x1024, .i32⟩
  | .hbm, ⟨42, _⟩ => ⟨S_, .i32⟩
  | .hbm, ⟨43, _⟩ => ⟨S1408x1024, .i32⟩
  | .hbm, ⟨44, _⟩ => ⟨S1408x1024, .i1⟩
  | .hbm, ⟨45, _⟩ => ⟨S_, .i32⟩
  | .hbm, ⟨46, _⟩ => ⟨S1408x1024, .i32⟩
  | .hbm, ⟨47, _⟩ => ⟨S1408x1024, .i32⟩
  | .hbm, ⟨48, _⟩ => ⟨S1408x1024, .i32⟩
  | .hbm, ⟨49, _⟩ => ⟨S_, .i32⟩
  | .hbm, ⟨50, _⟩ => ⟨S1408x1024, .i32⟩
  | .hbm, ⟨51, _⟩ => ⟨S1408x1024, .i32⟩
  | .hbm, ⟨52, _⟩ => ⟨S_, .i32⟩
  | .hbm, ⟨53, _⟩ => ⟨S1408x1024, .i32⟩
  | .hbm, ⟨54, _⟩ => ⟨S1408x1024, .i1⟩
  | .hbm, ⟨55, _⟩ => ⟨S_, .i32⟩
  | .hbm, ⟨56, _⟩ => ⟨S1408x1024, .i32⟩
  | .hbm, ⟨57, _⟩ => ⟨S1408x1024, .i32⟩
  | .hbm, ⟨58, _⟩ => ⟨S1408x1024, .i32⟩
  | .hbm, ⟨59, _⟩ => ⟨S1408x1x1024, .i32⟩
  | .hbm, ⟨60, _⟩ => ⟨S1408x1x1024, .i32⟩
  | .hbm, ⟨61, _⟩ => ⟨S1408x2x1024, .i32⟩
  | .hbm, ⟨62, _⟩ => ⟨S2816x1024, .i32⟩
  | .hbm, ⟨63, _⟩ => ⟨S2816x1024, .bf16⟩
  | .hbm, ⟨64, _⟩ => ⟨S22x128x1024, .bf16⟩
  | .hbm, ⟨65, _⟩ => ⟨S22x1024, .bf16⟩
  | .hbm, ⟨66, _⟩ => ⟨S22x1x1024, .bf16⟩
  | .hbm, ⟨67, _⟩ => ⟨S22x128x1024, .bf16⟩
  | .hbm, ⟨68, _⟩ => ⟨S22x128x1024, .bf16⟩
  | .hbm, ⟨69, _⟩ => ⟨S2816x1024, .bf16⟩
  | .hbm, ⟨70, _⟩ => ⟨S8x1024x256, .bf16⟩
  | .hbm, ⟨71, _⟩ => ⟨S8x128x256, .bf16⟩
  | .hbm, ⟨72, _⟩ => ⟨S8x128x256, .bf16⟩
  | .hbm, ⟨73, _⟩ => ⟨S8x256x1024, .bf16⟩
  | .hbm, ⟨74, _⟩ => ⟨S8x256x1024, .fp8e4m3⟩
  | .hbm, ⟨75, _⟩ => ⟨S8x256, .f32⟩
  | .hbm, ⟨76, _⟩ => ⟨S8x256x2816, .fp8e4m3⟩
  | .hbm, ⟨77, _⟩ => ⟨S8x256, .f32⟩
  | .local _ .vmem, ⟨0, _⟩ => ⟨S8x256x1024, .bf16⟩
  | .local _ .vmem, ⟨1, _⟩ => ⟨S1024, .f32⟩
  | .local _ .vmem, ⟨2, _⟩ => ⟨S1024x6912, .bf16⟩
  | .local _ .vmem, ⟨3, _⟩ => ⟨S2816x1024, .bf16⟩
  | .local _ .vmem, ⟨4, _⟩ => ⟨S8x1024x256, .bf16⟩
  | .local _ .vmem, ⟨5, _⟩ => ⟨S8x128x256, .bf16⟩
  | .local _ .vmem, ⟨6, _⟩ => ⟨S8x128x256, .bf16⟩
  | .local _ .vmem, ⟨7, _⟩ => ⟨S8x256x1024, .bf16⟩
  | .local _ .vmem, ⟨8, _⟩ => ⟨S8x256x1024, .fp8e4m3⟩
  | .local _ .vmem, ⟨9, _⟩ => ⟨S8x256, .f32⟩
  | .local _ .vmem, ⟨10, _⟩ => ⟨S8x256x2816, .fp8e4m3⟩
  | .local _ .vmem, ⟨11, _⟩ => ⟨S8x256, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_c_9 : Ref sig .tc := ⟨.hbm, 52, rfl⟩
abbrev main_v36 : Ref sig .tc := ⟨.hbm, 53, rfl⟩
abbrev main_v37 : Ref sig .tc := ⟨.hbm, 54, rfl⟩
abbrev main_c_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52_0 : Ref sig .tc := ⟨.hbm, 70, rfl⟩
abbrev main_v52_1 : Ref sig .tc := ⟨.hbm, 71, rfl⟩
abbrev main_v52_2 : Ref sig .tc := ⟨.hbm, 72, rfl⟩
abbrev main_v52_3 : Ref sig .tc := ⟨.hbm, 73, rfl⟩
abbrev main_v52_4 : Ref sig .tc := ⟨.hbm, 74, rfl⟩
abbrev main_v52_5 : Ref sig .tc := ⟨.hbm, 75, rfl⟩
abbrev main_v52_6 : Ref sig .tc := ⟨.hbm, 76, rfl⟩
abbrev main_v52_7 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x6912 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x256x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x256x2816 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.BRuns.lean ====
/- The program at machine numbers: what the two runs of the kernel body share: the frame claim read off a relational run, the branch condition in closed
   form, and the staging and scratch memrefs. -/
module

public import proofs.«01_k».proof.Proof.Gen.Kernel.Frame
public import proofs.«01_k».proof.Proof.Gen.Kernel.Skeleton

@[expose] public section

-- membership in a rectangle of long extents recurses once per coordinate
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x6912 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x6912 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1408x1024 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S22x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x1024 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256x2816 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x256 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S1024x6912 .bf16 := Memref.whole cc0_scratch0
abbrev scM0_1 : Memref sig .tc .vmem S2816x1024 .bf16 := Memref.whole cc0_scratch1
abbrev scM0_2 : Memref sig .tc .vmem S256x2816 .f32 := Memref.whole cc0_scratch2
/-- The scratch `arg15` the kernel carries between points, as a view: what it holds is stated through it. -/
abbrev VS0_0 : View sig .tc .vmem S1024x6912 .bf16 := scM0_0.view
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Run

end
-- ==== Proof.BRunA.lean ====
/- The program at machine numbers: case A of the kernel body (the first grid point, which unpacks the weights), run
   over its skeleton. -/
module

public import proofs.«01_k».proof.Proof.BRuns

@[expose] public section

-- membership in a rectangle of long extents recurses once per coordinate
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 7964000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7, 8, 9, 10, 11, 12, 13) at anything, handed back at some contents nothing names. -/
noncomputable def kernelRun0_A (c : Dev nD) (i : grid0.Coords) (arg1 : Memref sig .tc .vmem S1x256x1024 .bf16) (harg1 : arg1.IsWhole) (arg2 : Memref sig .tc .vmem S1x1024 .f32) (harg2 : arg2.IsWhole) (arg3 : Memref sig .tc .vmem S512x6912 .i8) (harg3 : arg3.IsWhole) (arg4 : Memref sig .tc .vmem S8x6912 .f32) (harg4 : arg4.IsWhole) (arg5 : Memref sig .tc .vmem S1408x1024 .i8) (harg5 : arg5.IsWhole) (arg6 : Memref sig .tc .vmem S22x1024 .f32) (harg6 : arg6.IsWhole) (arg7 : Memref sig .tc .vmem S1x1024x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S1x256x1024 .bf16) (harg10 : arg10.IsWhole) (arg11 : Memref sig .tc .vmem S1x256x1024 .fp8e4m3) (harg11 : arg11.IsWhole) (arg12 : Memref sig .tc .vmem S8x256 .f32) (harg12 : arg12.IsWhole) (arg13 : Memref sig .tc .vmem S1x256x2816 .fp8e4m3) (harg13 : arg13.IsWhole) (arg14 : Memref sig .tc .vmem S8x256 .f32) (harg14 : arg14.IsWhole) (arg15 : Memref sig .tc .vmem S1024x6912 .bf16) (harg15 : arg15.IsWhole) (arg16 : Memref sig .tc .vmem S2816x1024 .bf16) (harg16 : arg16.IsWhole) (arg17 : Memref sig .tc .vmem S256x2816 .f32) (harg17 : arg17.IsWhole) (hc0 : cond0_0 i)
    (x0 : Vec F S1x256x1024 .bf16) (x1 : Vec F S1x1024 .f32) (x2 : Vec F S512x6912 .i8) (x3 : Vec F S8x6912 .f32) (x4 : Vec F S1408x1024 .i8) (x5 : Vec F S22x1024 .f32) :
    { LS0 : List (View.Piece (Elt F) S1024x6912 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LS0) ∗ (∃ d, owns (c : Thread nD τ) arg16 fullShare d) ∗ (∃ d, owns (c : Thread nD τ) arg17 fullShare d)) -∗ K ⟨⟩))
          ⊢ wp frame (wpE (defs₀ (F := F)) Variants.none c none) E (cc0_palm_input i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_palm_input_eq_skeleton]; unfold cc0_palm_input_skel
    simp only [k0_part155_eq_skeleton, k0_part153_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part154_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]; · iexists _; iexact HS0
    isplitl [HS1]
    · iexists _, _; isplitr; swap; · iexact HS1
      ipureintro; rfl
    iexists _, _; isplitr; swap; · iexact HS2
    ipureintro; rfl

end Cert.Kernel.Run

end
-- ==== Proof.BRunB.lean ====
/- The program at machine numbers: case B of the kernel body (every later grid point), run over its skeleton. -/
module

public import proofs.«01_k».proof.Proof.BRunA

@[expose] public section

-- membership in a rectangle of long extents recurses once per coordinate
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 7: 7 of 8), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7, 8, 9, 10, 11, 12, 13) at anything, handed back at some contents nothing names. -/
noncomputable def kernelRun0_B (c : Dev nD) (i : grid0.Coords) (arg1 : Memref sig .tc .vmem S1x256x1024 .bf16) (harg1 : arg1.IsWhole) (arg2 : Memref sig .tc .vmem S1x1024 .f32) (harg2 : arg2.IsWhole) (arg3 : Memref sig .tc .vmem S512x6912 .i8) (harg3 : arg3.IsWhole) (arg4 : Memref sig .tc .vmem S8x6912 .f32) (harg4 : arg4.IsWhole) (arg5 : Memref sig .tc .vmem S1408x1024 .i8) (harg5 : arg5.IsWhole) (arg6 : Memref sig .tc .vmem S22x1024 .f32) (harg6 : arg6.IsWhole) (arg7 : Memref sig .tc .vmem S1x1024x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S1x256x1024 .bf16) (harg10 : arg10.IsWhole) (arg11 : Memref sig .tc .vmem S1x256x1024 .fp8e4m3) (harg11 : arg11.IsWhole) (arg12 : Memref sig .tc .vmem S8x256 .f32) (harg12 : arg12.IsWhole) (arg13 : Memref sig .tc .vmem S1x256x2816 .fp8e4m3) (harg13 : arg13.IsWhole) (arg14 : Memref sig .tc .vmem S8x256 .f32) (harg14 : arg14.IsWhole) (arg15 : Memref sig .tc .vmem S1024x6912 .bf16) (harg15 : arg15.IsWhole) (arg16 : Memref sig .tc .vmem S2816x1024 .bf16) (harg16 : arg16.IsWhole) (arg17 : Memref sig .tc .vmem S256x2816 .f32) (harg17 : arg17.IsWhole) (hc0 : ¬cond0_0 i)
    (x0 : Vec F S1x256x1024 .bf16) (x1 : Vec F S1x1024 .f32) (x2 : Vec F S512x6912 .i8) (x3 : Vec F S8x6912 .f32) (x4 : Vec F S1408x1024 .i8) (x5 : Vec F S22x1024 .f32) (xs0 : Vec F S1024x6912 .bf16) :
    { LS0 : List (View.Piece (Elt F) S1024x6912 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0 ∗ (∃ d, owns (c : Thread nD τ) arg16 fullShare d) ∗ (∃ d, owns (c : Thread nD τ) arg17 fullShare d)) -∗ K ⟨⟩))
          ⊢ wp frame (wpE (defs₀ (F := F)) Variants.none c none) E (cc0_palm_input i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], fun E K => ?run⟩
  case run =>
    simp only [cc0_palm_input_eq_skeleton]; unfold cc0_palm_input_skel
    simp only [k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg15.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]
    · iexists _; isplitr; · ipureintro; exact harg15.read_unread _
      iexact HS0
    isplitl [HS1]
    · iexists _, _; isplitr; swap; · iexact HS1
      ipureintro; rfl
    iexists _, _; isplitr; swap; · iexact HS2
    ipureintro; rfl

end Cert.Kernel.Run

end
-- ==== Proof.BFrame.lean ====
/- The frame of the kernel at machine numbers: it ends without a fault and leaves its arguments as they were. Nothing is
   said of what its outputs hold. -/
module

public import proofs.«01_k».proof.Proof.BRunB
public import Idealize.ShloMosaic.Lib.Claim

@[expose] public section

-- membership in a rectangle of long extents recurses once per coordinate
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg15`, which the kernel carries between points, cover it: 216 pieces of `S128x256` tiling it (Lib/Ring.lean `Piece.tiledL`). -/
theorem scover0_A_0 (c : Dev nD) (i : grid0.Coords) (arg1 : Memref sig .tc .vmem S1x256x1024 .bf16) (harg1 : arg1.IsWhole) (arg2 : Memref sig .tc .vmem S1x1024 .f32) (harg2 : arg2.IsWhole) (arg3 : Memref sig .tc .vmem S512x6912 .i8) (harg3 : arg3.IsWhole) (arg4 : Memref sig .tc .vmem S8x6912 .f32) (harg4 : arg4.IsWhole) (arg5 : Memref sig .tc .vmem S1408x1024 .i8) (harg5 : arg5.IsWhole) (arg6 : Memref sig .tc .vmem S22x1024 .f32) (harg6 : arg6.IsWhole) (arg7 : Memref sig .tc .vmem S1x1024x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S1x256x1024 .bf16) (harg10 : arg10.IsWhole) (arg11 : Memref sig .tc .vmem S1x256x1024 .fp8e4m3) (harg11 : arg11.IsWhole) (arg12 : Memref sig .tc .vmem S8x256 .f32) (harg12 : arg12.IsWhole) (arg13 : Memref sig .tc .vmem S1x256x2816 .fp8e4m3) (harg13 : arg13.IsWhole) (arg14 : Memref sig .tc .vmem S8x256 .f32) (harg14 : arg14.IsWhole) (arg15 : Memref sig .tc .vmem S1024x6912 .bf16) (harg15 : arg15.IsWhole) (arg16 : Memref sig .tc .vmem S2816x1024 .bf16) (harg16 : arg16.IsWhole) (arg17 : Memref sig .tc .vmem S256x2816 .f32) (harg17 : arg17.IsWhole) (hc0 : cond0_0 i)
    (x0 : Vec F S1x256x1024 .bf16) (x1 : Vec F S1x1024 .f32) (x2 : Vec F S512x6912 .i8) (x3 : Vec F S8x6912 .f32) (x4 : Vec F S1408x1024 .i8) (x5 : Vec F S22x1024 .f32) (y : S1024x6912.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).1 S128x256.size (by sl_kernel_rfl) y

/-- What case A leaves in scratch `arg15`: its pieces read back over junk. -/
def sout0_A_0 (c : Dev nD) (i : grid0.Coords) (arg1 : Memref sig .tc .vmem S1x256x1024 .bf16) (harg1 : arg1.IsWhole) (arg2 : Memref sig .tc .vmem S1x1024 .f32) (harg2 : arg2.IsWhole) (arg3 : Memref sig .tc .vmem S512x6912 .i8) (harg3 : arg3.IsWhole) (arg4 : Memref sig .tc .vmem S8x6912 .f32) (harg4 : arg4.IsWhole) (arg5 : Memref sig .tc .vmem S1408x1024 .i8) (harg5 : arg5.IsWhole) (arg6 : Memref sig .tc .vmem S22x1024 .f32) (harg6 : arg6.IsWhole) (arg7 : Memref sig .tc .vmem S1x1024x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S1x256x1024 .bf16) (harg10 : arg10.IsWhole) (arg11 : Memref sig .tc .vmem S1x256x1024 .fp8e4m3) (harg11 : arg11.IsWhole) (arg12 : Memref sig .tc .vmem S8x256 .f32) (harg12 : arg12.IsWhole) (arg13 : Memref sig .tc .vmem S1x256x2816 .fp8e4m3) (harg13 : arg13.IsWhole) (arg14 : Memref sig .tc .vmem S8x256 .f32) (harg14 : arg14.IsWhole) (arg15 : Memref sig .tc .vmem S1024x6912 .bf16) (harg15 : arg15.IsWhole) (arg16 : Memref sig .tc .vmem S2816x1024 .bf16) (harg16 : arg16.IsWhole) (arg17 : Memref sig .tc .vmem S256x2816 .f32) (harg17 : arg17.IsWhole) (hc0 : cond0_0 i)
    (x0 : Vec F S1x256x1024 .bf16) (x1 : Vec F S1x1024 .f32) (x2 : Vec F S512x6912 .i8) (x3 : Vec F S8x6912 .f32) (x4 : Vec F S1408x1024 .i8) (x5 : Vec F S22x1024 .f32) : Vec F S1024x6912 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).1)

/-- Case B stores nothing into scratch `arg15`: it holds what the point before left. -/
def sout0_B_0 (c : Dev nD) (i : grid0.Coords) (arg1 : Memref sig .tc .vmem S1x256x1024 .bf16) (harg1 : arg1.IsWhole) (arg2 : Memref sig .tc .vmem S1x1024 .f32) (harg2 : arg2.IsWhole) (arg3 : Memref sig .tc .vmem S512x6912 .i8) (harg3 : arg3.IsWhole) (arg4 : Memref sig .tc .vmem S8x6912 .f32) (harg4 : arg4.IsWhole) (arg5 : Memref sig .tc .vmem S1408x1024 .i8) (harg5 : arg5.IsWhole) (arg6 : Memref sig .tc .vmem S22x1024 .f32) (harg6 : arg6.IsWhole) (arg7 : Memref sig .tc .vmem S1x1024x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S1x256x1024 .bf16) (harg10 : arg10.IsWhole) (arg11 : Memref sig .tc .vmem S1x256x1024 .fp8e4m3) (harg11 : arg11.IsWhole) (arg12 : Memref sig .tc .vmem S8x256 .f32) (harg12 : arg12.IsWhole) (arg13 : Memref sig .tc .vmem S1x256x2816 .fp8e4m3) (harg13 : arg13.IsWhole) (arg14 : Memref sig .tc .vmem S8x256 .f32) (harg14 : arg14.IsWhole) (arg15 : Memref sig .tc .vmem S1024x6912 .bf16) (harg15 : arg15.IsWhole) (arg16 : Memref sig .tc .vmem S2816x1024 .bf16) (harg16 : arg16.IsWhole) (arg17 : Memref sig .tc .vmem S256x2816 .f32) (harg17 : arg17.IsWhole) (hc0 : ¬cond0_0 i)
    (x0 : Vec F S1x256x1024 .bf16) (x1 : Vec F S1x1024 .f32) (x2 : Vec F S512x6912 .i8) (x3 : Vec F S8x6912 .f32) (x4 : Vec F S1408x1024 .i8) (x5 : Vec F S22x1024 .f32) (xs0 : Vec F S1024x6912 .bf16) : Vec F S1024x6912 .bf16 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x6912 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 8 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))

/-- `outsAt0` at a point of case A: that case's contents. -/
theorem outsAt0_A (c : Dev nD) (t : Fin cfg0.N) (h0 : t.val % 8 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

/-- The output windows this certificate FORGETS (6, 7, 8, 9, 10, 11, 12, 13): nothing reads what the kernel leaves in them, so nothing
    of it is named (Lib/Pipeline/Dat.lean `Dat.toRForget`). -/
def forgets0 : Fin 14 → Bool := fun w => w.val == 6 || w.val == 7 || w.val == 8 || w.val == 9 || w.val == 10 || w.val == 11 || w.val == 12 || w.val == 13

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases hz : t.val = 0
    · rw [PhiS_castSucc m c t, PhiS_zero m c _ _ hz, PhiA0_eq]
      rw [outsAt0_A m c t h0]
      unfold sout0_A_0
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid0.coords t) _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      isplitl [HS1]; · iexact HS1
      isplitl [HS2]; · iexact HS2
      iintro ⟨H0, H1, H2, H3, H4, H5, H6, H7, H8, H9, H10, H11, H12, H13, ⟨%es0, HS0⟩, HS1, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _)
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc m c t, PhiS_pos m c _ _ hz]
      rw [outsAt0_B m c t h0]
      unfold sout0_B_0
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_B c (grid0.coords t) _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      isplitl [HS1]; · iexact HS1
      isplitl [HS2]; · iexact HS2
      iintro ⟨H0, H1, H2, H3, H4, H5, H6, H7, H8, H9, H10, H11, H12, H13, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 6, 7, 8, 9, 10, 11, 12, 13) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The frame claim of the program, at any numbers: every run ends without a fault, with the argument arrays as they
    were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Run

end
-- ==== Proof.KRuns.lean ====
/- What the two runs of the kernel body share: the frame claim read off a relational run, the branch condition in closed
   form, and the staging and scratch memrefs. -/
module

public import proofs.«01_k».proof.Proof.Gen.KernelIdeal.Frame
public import proofs.«01_k».proof.Proof.Gen.KernelIdeal.Skeleton

@[expose] public section

-- membership in a rectangle of long extents recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- One staging buffer of output window 6, through which its contents are stated (`View.read_writes_of_cover`: the
    choice does not matter). -/
abbrev VO0_6 : View sig .tc .vmem S1x1024x256 .bf16 := (Memref.whole cc0_stg6_0 : Memref sig .tc .vmem S1x1024x256 .bf16).view
/-- One staging buffer of output window 7, through which its contents are stated (`View.read_writes_of_cover`: the
    choice does not matter). -/
abbrev VO0_7 : View sig .tc .vmem S1x128x256 .bf16 := (Memref.whole cc0_stg7_0 : Memref sig .tc .vmem S1x128x256 .bf16).view
/-- One staging buffer of output window 8, through which its contents are stated (`View.read_writes_of_cover`: the
    choice does not matter). -/
abbrev VO0_8 : View sig .tc .vmem S1x128x256 .bf16 := (Memref.whole cc0_stg8_0 : Memref sig .tc .vmem S1x128x256 .bf16).view
/-- One staging buffer of output window 9, through which its contents are stated (`View.read_writes_of_cover`: the
    choice does not matter). -/
abbrev VO0_9 : View sig .tc .vmem S1x256x1024 .bf16 := (Memref.whole cc0_stg9_0 : Memref sig .tc .vmem S1x256x1024 .bf16).view
/-- One staging buffer of output window 10, through which its contents are stated (`View.read_writes_of_cover`: the
    choice does not matter). -/
abbrev VO0_10 : View sig .tc .vmem S1x256x1024 .fp8e4m3 := (Memref.whole cc0_stg10_0 : Memref sig .tc .vmem S1x256x1024 .fp8e4m3).view
/-- One staging buffer of output window 12, through which its contents are stated (`View.read_writes_of_cover`: the
    choice does not matter). -/
abbrev VO0_12 : View sig .tc .vmem S1x256x2816 .fp8e4m3 := (Memref.whole cc0_stg12_0 : Memref sig .tc .vmem S1x256x2816 .fp8e4m3).view
/-- Each window's current staging memref at point `t`, spelled as the pipeline passes it (`bodyAt0`), and its wholeness. -/
abbrev ms0_0 (t : Fin cfg0.N) : Memref sig .tc .vmem S1x256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x6912 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x6912 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1408x1024 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S22x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x1024 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256x2816 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x256 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S1024x6912 .bf16 := Memref.whole cc0_scratch0
abbrev scM0_1 : Memref sig .tc .vmem S2816x1024 .bf16 := Memref.whole cc0_scratch1
abbrev scM0_2 : Memref sig .tc .vmem S256x2816 .f32 := Memref.whole cc0_scratch2
/-- The scratch `arg15` the kernel carries between points, as a view: what it holds is stated through it. -/
abbrev VS0_0 : View sig .tc .vmem S1024x6912 .bf16 := scM0_0.view
/-- The scratch `arg16` the kernel carries between points, as a view: what it holds is stated through it. -/
abbrev VS0_1 : View sig .tc .vmem S2816x1024 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Run

end
-- ==== Proof.RunA.lean ====
/- Case A of the kernel body, run over its skeleton. -/
module

public import proofs.«01_k».proof.Proof.KRuns

@[expose] public section

-- membership in a rectangle of long extents recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 7964000 in
/-- Case A of the body (the first point), run on whole staging memrefs: the lists of pieces its stores leave in each output and
    in the scratch, with the proof that it runs. The two scale outputs (windows 11 and 13) are stored one row at a time, so
    their buffers come in at named contents and go out with the pieces written over them. -/
noncomputable def kernelRun0_A (c : Dev nD) (i : grid0.Coords) (arg1 : Memref sig .tc .vmem S1x256x1024 .bf16) (harg1 : arg1.IsWhole) (arg2 : Memref sig .tc .vmem S1x1024 .f32) (harg2 : arg2.IsWhole) (arg3 : Memref sig .tc .vmem S512x6912 .i8) (harg3 : arg3.IsWhole) (arg4 : Memref sig .tc .vmem S8x6912 .f32) (harg4 : arg4.IsWhole) (arg5 : Memref sig .tc .vmem S1408x1024 .i8) (harg5 : arg5.IsWhole) (arg6 : Memref sig .tc .vmem S22x1024 .f32) (harg6 : arg6.IsWhole) (arg7 : Memref sig .tc .vmem S1x1024x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S1x256x1024 .bf16) (harg10 : arg10.IsWhole) (arg11 : Memref sig .tc .vmem S1x256x1024 .fp8e4m3) (harg11 : arg11.IsWhole) (arg12 : Memref sig .tc .vmem S8x256 .f32) (harg12 : arg12.IsWhole) (arg13 : Memref sig .tc .vmem S1x256x2816 .fp8e4m3) (harg13 : arg13.IsWhole) (arg14 : Memref sig .tc .vmem S8x256 .f32) (harg14 : arg14.IsWhole) (arg15 : Memref sig .tc .vmem S1024x6912 .bf16) (harg15 : arg15.IsWhole) (arg16 : Memref sig .tc .vmem S2816x1024 .bf16) (harg16 : arg16.IsWhole) (arg17 : Memref sig .tc .vmem S256x2816 .f32) (harg17 : arg17.IsWhole) (hc0 : cond0_0 i)
    (x0 : Vec F S1x256x1024 .bf16) (x1 : Vec F S1x1024 .f32) (x2 : Vec F S512x6912 .i8) (x3 : Vec F S8x6912 .f32) (x4 : Vec F S1408x1024 .i8) (x5 : Vec F S22x1024 .f32) :
    Σ' (L6 : List (View.Piece (Elt F) S1x1024x256 .bf16)), Σ' (L7 : List (View.Piece (Elt F) S1x128x256 .bf16)), Σ' (L8 : List (View.Piece (Elt F) S1x128x256 .bf16)), Σ' (L9 : List (View.Piece (Elt F) S1x256x1024 .bf16)), Σ' (L10 : List (View.Piece (Elt F) S1x256x1024 .fp8e4m3)), Σ' (L11 : List (View.Piece (Elt F) S8x256 .f32)), Σ' (L12 : List (View.Piece (Elt F) S1x256x2816 .fp8e4m3)), Σ' (L13 : List (View.Piece (Elt F) S8x256 .f32)), Σ' (LS0 : List (View.Piece (Elt F) S1024x6912 .bf16)), Σ' (LS1 : List (View.Piece (Elt F) S2816x1024 .bf16)), { LT2 : List (View.Piece (Elt F) S256x2816 .f32) //
      ∀ (y11 y13 : Vec F S8x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare y11 ∗ (∃ d, owns (c : Thread nD τ) arg13 fullShare d) ∗ owns (c : Thread nD τ) arg14 fullShare y13 ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (arg12.view.loc (c : Thread nD τ) ↦[arg12.view.set]{fullShare} arg12.view.writes (Elt F) (harg12.unread y11) L11) ∗ (∃ f, arg13.view.loc (c : Thread nD τ) ↦[arg13.view.set]{fullShare} arg13.view.writes (Elt F) f L12) ∗ (arg14.view.loc (c : Thread nD τ) ↦[arg14.view.set]{fullShare} arg14.view.writes (Elt F) (harg14.unread y13) L13) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LT2)) -∗ K ⟨⟩))
          ⊢ wp frame (wpE (defs₀ (F := F)) Variants.none c none) E (cc0_palm_input i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, ?_, ?_, fun y11 y13 E K => ?run⟩
  case run =>
    simp only [cc0_palm_input_eq_skeleton]; unfold cc0_palm_input_skel
    simp only [k0_part155_eq_skeleton, k0_part153_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part154_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%f11, %hf11, H11⟩, ⟨%d12, %f12, -, H12⟩, ⟨%f13, %hf13, H13⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg14.eq_unread hf13; obtain rfl := harg12.eq_unread hf11
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexact H11
    isplitl [H12]; · iexists _; iexact H12
    isplitl [H13]; · iexact H13
    isplitl [HS0]; · iexists _; iexact HS0
    isplitl [HS1]; · iexists _; iexact HS1
    iexists _; iexact HS2

end Cert.KernelIdeal.Run

end
-- ==== Proof.KPieces.lean ====
/- The values the kernel body stores, as functions of its blocks, and the piece lists they are stored in. -/
module

public import proofs.«01_k».proof.Proof.KRuns

@[expose] public section

-- membership in a rectangle of long extents recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's values as functions of its blocks

The printed payloads, said once each: a column tile of a projection, a gated tile, the running row maximum, the scale
exponent; `xb`, `g`, `w`, `wd` are the batch's block of `x`, the norm's weights and the two dequantised weight matrices. -/

section Pieces

variable (t : FVec F S256x1 .f32) (xs : FVec F S256x1 .f32) (a : FVec F S256x1024 .bf16)
variable (xb : Vec F S1x256x1024 .bf16) (g : Vec F S1x1024 .f32) (w : Vec F S1024x6912 .bf16) (wd : Vec F S2816x1024 .bf16)

/-- One step of the exponent search: the bit stays where the power of two with it does not exceed `t`. -/
def estep (bit : BitVec 32) (e : IVec S256x1 32) : IVec S256x1 32 :=
  select (cmpf .oge t (bitcastToFloat .f32 (shli (ori e (broadcast S256x1 bit)) (broadcast S256x1 23#32))))
    (ori e (broadcast S256x1 bit)) e

/-- The exponent field of `t`. -/
def expo : IVec S256x1 32 :=
  select (cmpf .olt t (broadcast S256x1 (Scalar.ofBits (F := F) .f32 0x7E800000#32)))
    (estep t 1#32 (estep t 2#32 (estep t 4#32 (estep t 8#32 (estep t 16#32 (estep t 32#32 (estep t 64#32
      (estep t 128#32 (broadcast S256x1 0#32))))))))) (broadcast S256x1 255#32)

/-- The whole block of `x`, as the body loads it. -/
def ldx : Vec F S1x256x1024 .bf16 := View.ld xb (Rect.unit (s := S1x256x1024) ![0, 0, 0] S1x256x1024.size inb_S1x256x1024_S1x256x1024_0_0_0)
/-- The norm's weights, as the body loads them. -/
def ldg : Vec F S1x1024 .f32 := View.ld g (Rect.unit (s := S1x1024) ![0, 0] S1x1024.size inb_S1x1024_S1x1024_0_0)

/-- The normalised block. -/
def xnv : FVec F S256x1024 .f32 := k0_pay307 (ldx xb) (ldg g)
/-- The exponent field of the rows' scales. -/
def xe : IVec S256x1 32 := expo (k0_pay308 (ldx xb) (ldg g))
/-- The rows' scales. -/
def xsc : FVec F S256x1 .f32 := k0_pay362 (xe xb g)
/-- The block's codes. -/
def xcd : FVec F S256x1024 .fp8e4m3 := k0_pay313 (xnv xb g) (xe xb g) 0#32
/-- The codes as the projections read them. -/
def xa : FVec F S256x1024 .bf16 := extf .bf16 (xcd xb g) bitsLt_fp8e4m3_bf16

theorem inbW (n : ℕ) (h : n + 256 ≤ 6912) : ∀ a, (![0, n] : Fin 2 → ℕ) a + (![1024, 256] : Fin 2 → ℕ) a ≤ S1024x6912.size a := by
  intro a; fin_cases a
  · exact le_refl _
  · exact h
theorem inbD (n : ℕ) (h : n + 256 ≤ 1024) : ∀ a, (![0, n] : Fin 2 → ℕ) a + (![2816, 256] : Fin 2 → ℕ) a ≤ S2816x1024.size a := by
  intro a; fin_cases a
  · exact le_refl _
  · exact h
theorem inbH (n : ℕ) (h : n + 256 ≤ 2816) : ∀ a, (![0, n] : Fin 2 → ℕ) a + (![256, 256] : Fin 2 → ℕ) a ≤ S256x2816.size a := by
  intro a; fin_cases a
  · exact le_refl _
  · exact h
theorem inbQ (n : ℕ) (h : n + 256 ≤ 1024) : ∀ a, (![0, n, 0] : Fin 3 → ℕ) a + (![1, 256, 256] : Fin 3 → ℕ) a ≤ S1x1024x256.size a := by
  intro a; fin_cases a
  · exact le_refl _
  · exact h
  · exact le_refl _
theorem inbY (n : ℕ) (h : n + 256 ≤ 1024) : ∀ a, (![0, 0, n] : Fin 3 → ℕ) a + (![1, 256, 256] : Fin 3 → ℕ) a ≤ S1x256x1024.size a := by
  intro a; fin_cases a
  · exact le_refl _
  · exact le_refl _
  · exact h

/-- Columns `n … n + 255` of the first weights. -/
def wcol (n : ℕ) (h : n + 256 ≤ 6912) : Vec F S1024x256 .bf16 := View.ld w (Rect.unit (s := S1024x6912) ![0, n] ![1024, 256] (inbW n h))
/-- Columns `n … n + 255` of the second weights. -/
def dcol (n : ℕ) (h : n + 256 ≤ 1024) : Vec F S2816x256 .bf16 := View.ld wd (Rect.unit (s := S2816x1024) ![0, n] ![2816, 256] (inbD n h))

/-- One column tile of a projection. -/
def tile (wn : Vec F S1024x256 .bf16) : FVec F S256x256 .f32 :=
  mulf (matmul dot_S256x1024_S1024x256_S256x256_1_0_0_1_n_n none a wn (constant S256x256 .f32 0x00000000#32))
    (broadcastTo S256x256 xs broadcasts_S256x1_S256x256)

/-- The gated product of two tiles. -/
def gated (gt up : FVec F S256x256 .f32) : FVec F S256x256 .f32 := mulf (mulf gt (logistic gt)) up

/-- The `k`-th tile of the hidden layer. -/
def htile (k : Fin 11) : FVec F S256x256 .f32 :=
  gated (tile (xsc xb g) (xa xb g) (wcol w (1280 + 256 * k.val) (by omega))) (tile (xsc xb g) (xa xb g) (wcol w (4096 + 256 * k.val) (by omega)))

/-- The running row maximum after one more tile. -/
def amaxStep (m : FVec F S256x1 .f32) (h : FVec F S256x256 .f32) : FVec F S256x1 .f32 :=
  maximumf m (shapeCast S256x1 (multiReduction .maximumf [1] S256 (absf h) 0xFF800000#32 reduces_S256x256_S256_2 (.inl rfl) rfl) shapeCasts_S256_S256x1)

/-- The row maximum over the tiles `0 … k - 1`. -/
def hmaxUpTo : (k : ℕ) → k ≤ 11 → FVec F S256x1 .f32
  | 0, _ => broadcast S256x1 (Scalar.ofBits (F := F) .f32 0x00000000#32)
  | k + 1, h => amaxStep (hmaxUpTo k (by omega)) (htile xb g w ⟨k, h⟩)

/-- The pieces the hidden scratch is stored in. -/
def hpc (k : Fin 11) : View.Piece (Elt F) S256x2816 .f32 :=
  ⟨Rect.unit (s := S256x2816) ![0, 256 * k.val] ![256, 256] (inbH _ (by omega)), shapeCast S256x256 (htile xb g w k) shapeCasts_S256x256_S256x256⟩
def PT2 : List (View.Piece (Elt F) S256x2816 .f32) :=
  [hpc xb g w 10, hpc xb g w 9, hpc xb g w 8, hpc xb g w 7, hpc xb g w 6, hpc xb g w 5, hpc xb g w 4, hpc xb g w 3, hpc xb g w 2, hpc xb g w 1, hpc xb g w 0]

/-- The hidden layer's block, as the body loads it back. -/
def hfull : Vec F S256x2816 .f32 :=
  View.ld (View.canon (PT2 xb g w)) (Rect.unit (s := S256x2816) ![0, 0] S256x2816.size inb_S256x2816_S256x2816_0_0)
/-- The exponent field of the hidden rows' scales. -/
def he : IVec S256x1 32 := expo (k0_pay358 (hmaxUpTo xb g w 11 (le_refl _)))
/-- The hidden rows' scales. -/
def hsc : FVec F S256x1 .f32 := k0_pay362 (he xb g w)
/-- The hidden codes. -/
def hcd (hf : Vec F S256x2816 .f32) : FVec F S256x2816 .fp8e4m3 := k0_pay364 (he xb g w) hf

/-- Output 6 (the queries), tile by tile. -/
def qpc (n : ℕ) (h : n + 256 ≤ 1024) : View.Piece (Elt F) S1x1024x256 .bf16 :=
  ⟨Rect.unit (s := S1x1024x256) ![0, n, 0] ![1, 256, 256] (inbQ n h),
    shapeCast S1x256x256 (transpose S256x256 [1, 0] (truncf .bf16 (tile (xsc xb g) (xa xb g) (wcol w n (by omega))) bitsLt_bf16_f32) transposes_S256x256_p1_0_S256x256) shapeCasts_S256x256_S1x256x256⟩
def P6 : List (View.Piece (Elt F) S1x1024x256 .bf16) :=
  [qpc xb g w 768 (by omega), qpc xb g w 512 (by omega), qpc xb g w 256 (by omega), qpc xb g w 0 (by omega)]
/-- The keys' and values' tile. -/
def kvt : FVec F S256x256 .bf16 :=
  transpose S256x256 [1, 0] (truncf .bf16 (tile (xsc xb g) (xa xb g) (wcol w 1024 (by omega))) bitsLt_bf16_f32) transposes_S256x256_p1_0_S256x256
def P7 : List (View.Piece (Elt F) S1x128x256 .bf16) :=
  [⟨Rect.unit (s := S1x128x256) ![0, 0, 0] S1x128x256.size inb_S1x128x256_S1x128x256_0_0_0,
    shapeCast S1x128x256 (extractStridedSlice S128x256 ![0, 0] (kvt xb g w) slices_S256x256_o0_0_S128x256) shapeCasts_S128x256_S1x128x256⟩]
def P8 : List (View.Piece (Elt F) S1x128x256 .bf16) :=
  [⟨Rect.unit (s := S1x128x256) ![0, 0, 0] S1x128x256.size inb_S1x128x256_S1x128x256_0_0_0,
    shapeCast S1x128x256 (extractStridedSlice S128x256 ![128, 0] (kvt xb g w) slices_S256x256_o128_0_S128x256) shapeCasts_S128x256_S1x128x256⟩]
/-- Output 9 (the block's result), tile by tile. -/
def ypc (hf : Vec F S256x2816 .f32) (n : ℕ) (h : n + 256 ≤ 1024) : View.Piece (Elt F) S1x256x1024 .bf16 :=
  ⟨Rect.unit (s := S1x256x1024) ![0, 0, n] ![1, 256, 256] (inbY n h),
    k0_pay367 (hsc xb g w) (hcd xb g w hf) (dcol wd n h) (View.ld xb (Rect.unit (s := S1x256x1024) ![0, 0, n] ![1, 256, 256] (inbY n h)))⟩
def P9 (hf : Vec F S256x2816 .f32) : List (View.Piece (Elt F) S1x256x1024 .bf16) :=
  [ypc xb g w wd hf 768 (by omega), ypc xb g w wd hf 512 (by omega), ypc xb g w wd hf 256 (by omega), ypc xb g w wd hf 0 (by omega)]
def P10 : List (View.Piece (Elt F) S1x256x1024 .fp8e4m3) :=
  [⟨Rect.unit (s := S1x256x1024) ![0, 0, 0] S1x256x1024.size inb_S1x256x1024_S1x256x1024_0_0_0, shapeCast S1x256x1024 (xcd xb g) shapeCasts_S256x1024_S1x256x1024⟩]
def P12 (hf : Vec F S256x2816 .f32) : List (View.Piece (Elt F) S1x256x2816 .fp8e4m3) :=
  [⟨Rect.unit (s := S1x256x2816) ![0, 0, 0] S1x256x2816.size inb_S1x256x2816_S1x256x2816_0_0_0, shapeCast S1x256x2816 (hcd xb g w hf) shapeCasts_S256x2816_S1x256x2816⟩]

/-- The row of the two scale outputs the body stores at a point. -/
def rowR (i : grid0.Coords) : Rect S8x256 := Rect.unit (s := S8x256) (k0_off1 i) ![1, 256] (k0_off1_inb i)
def P11 (i : grid0.Coords) : List (View.Piece (Elt F) S8x256 .f32) := [⟨rowR i, k0_pay363 (xe xb g)⟩]
def P13 (i : grid0.Coords) : List (View.Piece (Elt F) S8x256 .f32) := [⟨rowR i, k0_pay363 (he xb g w)⟩]

/-! ## The dequantised weights -/

variable (x2 : Vec F S512x6912 .i8) (x3 : Vec F S8x6912 .f32) (x4 : Vec F S1408x1024 .i8) (x5 : Vec F S22x1024 .f32)

/-- The `k`-th dequantised tile of the first weights, in the order stored last first. -/
def w1pc (k : Fin 216) : View.Piece (Elt F) S1024x6912 .bf16 :=
  ⟨Rect.unit (s := S1024x6912) ![128 * ((215 - k.val) / 27), 256 * ((215 - k.val) % 27)] ![128, 256] (by
      have := k.isLt; intro a; fin_cases a
      · show 128 * ((215 - k.val) / 27) + 128 ≤ 1024; omega
      · show 256 * ((215 - k.val) % 27) + 256 ≤ 6912; omega),
    k0_pay3 (View.ld x2 (Rect.unit (s := S512x6912) ![64 * ((215 - k.val) / 27), 256 * ((215 - k.val) % 27)] ![64, 256] (by
      have := k.isLt; intro a; fin_cases a
      · show 64 * ((215 - k.val) / 27) + 64 ≤ 512; omega
      · show 256 * ((215 - k.val) % 27) + 256 ≤ 6912; omega)))
      (View.ld x3 (Rect.unit (s := S8x6912) ![(215 - k.val) / 27, 256 * ((215 - k.val) % 27)] ![1, 256] (by
      have := k.isLt; intro a; fin_cases a
      · show (215 - k.val) / 27 + 1 ≤ 8; omega
      · show 256 * ((215 - k.val) % 27) + 256 ≤ 6912; omega)))⟩
def PS0 : List (View.Piece (Elt F) S1024x6912 .bf16) := List.ofFn (w1pc x2 x3)
/-- The `k`-th dequantised tile of the second weights, in the order stored last first. -/
def w2pc (k : Fin 88) : View.Piece (Elt F) S2816x1024 .bf16 :=
  ⟨Rect.unit (s := S2816x1024) ![128 * ((87 - k.val) / 4), 256 * ((87 - k.val) % 4)] ![128, 256] (by
      have := k.isLt; intro a; fin_cases a
      · show 128 * ((87 - k.val) / 4) + 128 ≤ 2816; omega
      · show 256 * ((87 - k.val) % 4) + 256 ≤ 1024; omega),
    k0_pay3 (View.ld x4 (Rect.unit (s := S1408x1024) ![64 * ((87 - k.val) / 4), 256 * ((87 - k.val) % 4)] ![64, 256] (by
      have := k.isLt; intro a; fin_cases a
      · show 64 * ((87 - k.val) / 4) + 64 ≤ 1408; omega
      · show 256 * ((87 - k.val) % 4) + 256 ≤ 1024; omega)))
      (View.ld x5 (Rect.unit (s := S22x1024) ![(87 - k.val) / 4, 256 * ((87 - k.val) % 4)] ![1, 256] (by
      have := k.isLt; intro a; fin_cases a
      · show (87 - k.val) / 4 + 1 ≤ 22; omega
      · show 256 * ((87 - k.val) % 4) + 256 ≤ 1024; omega)))⟩
def PS1 : List (View.Piece (Elt F) S2816x1024 .bf16) := List.ofFn (w2pc x4 x5)
/-- The two dequantised weight matrices. -/
def W1 : Vec F S1024x6912 .bf16 := View.canon (PS0 x2 x3)
def W2 : Vec F S2816x1024 .bf16 := View.canon (PS1 x4 x5)

end Pieces

end Cert.KernelIdeal.Run

end
-- ==== Proof.EqA.lean ====
/- What case A of the body stores is the piece lists of `KPieces`. -/
module

public import proofs.«01_k».proof.Proof.RunA
public import proofs.«01_k».proof.Proof.KPieces

@[expose] public section

-- membership in a rectangle of long extents recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg1 : Memref sig .tc .vmem S1x256x1024 .bf16) (harg1 : arg1.IsWhole) (arg2 : Memref sig .tc .vmem S1x1024 .f32) (harg2 : arg2.IsWhole) (arg3 : Memref sig .tc .vmem S512x6912 .i8) (harg3 : arg3.IsWhole) (arg4 : Memref sig .tc .vmem S8x6912 .f32) (harg4 : arg4.IsWhole) (arg5 : Memref sig .tc .vmem S1408x1024 .i8) (harg5 : arg5.IsWhole) (arg6 : Memref sig .tc .vmem S22x1024 .f32) (harg6 : arg6.IsWhole) (arg7 : Memref sig .tc .vmem S1x1024x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S1x256x1024 .bf16) (harg10 : arg10.IsWhole) (arg11 : Memref sig .tc .vmem S1x256x1024 .fp8e4m3) (harg11 : arg11.IsWhole) (arg12 : Memref sig .tc .vmem S8x256 .f32) (harg12 : arg12.IsWhole) (arg13 : Memref sig .tc .vmem S1x256x2816 .fp8e4m3) (harg13 : arg13.IsWhole) (arg14 : Memref sig .tc .vmem S8x256 .f32) (harg14 : arg14.IsWhole) (arg15 : Memref sig .tc .vmem S1024x6912 .bf16) (harg15 : arg15.IsWhole) (arg16 : Memref sig .tc .vmem S2816x1024 .bf16) (harg16 : arg16.IsWhole) (arg17 : Memref sig .tc .vmem S256x2816 .f32) (harg17 : arg17.IsWhole) (hc0 : cond0_0 i)
  (x0 : Vec F S1x256x1024 .bf16) (x1 : Vec F S1x1024 .f32) (x2 : Vec F S512x6912 .i8) (x3 : Vec F S8x6912 .f32) (x4 : Vec F S1408x1024 .i8) (x5 : Vec F S22x1024 .f32)

theorem runA_P6 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).1 = P6 x0 x1 (W1 x2 x3) := by
  refine Eq.trans (b := P6 (arg1.view.read (Elt F) (harg1.unread x0)) (arg2.view.read (Elt F) (harg2.unread x1)) (arg15.view.read (Elt F) (arg15.view.writes (Elt F) arg15.view.junk (PS0 (arg3.view.read (Elt F) (harg3.unread x2)) (arg4.view.read (Elt F) (harg4.unread x3)))))) (by sl_kernel_rfl) ?_
  simp only [harg1.read_unread, harg2.read_unread, harg3.read_unread, harg4.read_unread, harg5.read_unread, harg6.read_unread, View.read_writes_junk_eq_canon] <;> rfl
theorem runA_P7 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.1 = P7 x0 x1 (W1 x2 x3) := by
  refine Eq.trans (b := P7 (arg1.view.read (Elt F) (harg1.unread x0)) (arg2.view.read (Elt F) (harg2.unread x1)) (arg15.view.read (Elt F) (arg15.view.writes (Elt F) arg15.view.junk (PS0 (arg3.view.read (Elt F) (harg3.unread x2)) (arg4.view.read (Elt F) (harg4.unread x3)))))) (by sl_kernel_rfl) ?_
  simp only [harg1.read_unread, harg2.read_unread, harg3.read_unread, harg4.read_unread, harg5.read_unread, harg6.read_unread, View.read_writes_junk_eq_canon] <;> rfl
theorem runA_P8 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.2.1 = P8 x0 x1 (W1 x2 x3) := by
  refine Eq.trans (b := P8 (arg1.view.read (Elt F) (harg1.unread x0)) (arg2.view.read (Elt F) (harg2.unread x1)) (arg15.view.read (Elt F) (arg15.view.writes (Elt F) arg15.view.junk (PS0 (arg3.view.read (Elt F) (harg3.unread x2)) (arg4.view.read (Elt F) (harg4.unread x3)))))) (by sl_kernel_rfl) ?_
  simp only [harg1.read_unread, harg2.read_unread, harg3.read_unread, harg4.read_unread, harg5.read_unread, harg6.read_unread, View.read_writes_junk_eq_canon] <;> rfl
theorem runA_P9 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.2.2.1 = P9 x0 x1 (W1 x2 x3) (W2 x4 x5) (hfull x0 x1 (W1 x2 x3)) := by
  refine Eq.trans (b := P9 (arg1.view.read (Elt F) (harg1.unread x0)) (arg2.view.read (Elt F) (harg2.unread x1)) (arg15.view.read (Elt F) (arg15.view.writes (Elt F) arg15.view.junk (PS0 (arg3.view.read (Elt F) (harg3.unread x2)) (arg4.view.read (Elt F) (harg4.unread x3))))) (arg16.view.read (Elt F) (arg16.view.writes (Elt F) arg16.view.junk (PS1 (arg5.view.read (Elt F) (harg5.unread x4)) (arg6.view.read (Elt F) (harg6.unread x5))))) (View.ld (arg17.view.read (Elt F) (arg17.view.writes (Elt F) arg17.view.junk (PT2 (arg1.view.read (Elt F) (harg1.unread x0)) (arg2.view.read (Elt F) (harg2.unread x1)) (arg15.view.read (Elt F) (arg15.view.writes (Elt F) arg15.view.junk (PS0 (arg3.view.read (Elt F) (harg3.unread x2)) (arg4.view.read (Elt F) (harg4.unread x3)))))))) (Rect.unit (s := S256x2816) ![0, 0] S256x2816.size inb_S256x2816_S256x2816_0_0))) (by sl_kernel_rfl) ?_
  simp only [harg1.read_unread, harg2.read_unread, harg3.read_unread, harg4.read_unread, harg5.read_unread, harg6.read_unread, View.read_writes_junk_eq_canon] <;> rfl
theorem runA_P10 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.2.2.2.1 = P10 x0 x1 := by
  refine Eq.trans (b := P10 (arg1.view.read (Elt F) (harg1.unread x0)) (arg2.view.read (Elt F) (harg2.unread x1))) (by sl_kernel_rfl) ?_
  simp only [harg1.read_unread, harg2.read_unread, harg3.read_unread, harg4.read_unread, harg5.read_unread, harg6.read_unread, View.read_writes_junk_eq_canon] <;> rfl
theorem runA_P11 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.2.2.2.2.1 = P11 x0 x1 i := by
  refine Eq.trans (b := P11 (arg1.view.read (Elt F) (harg1.unread x0)) (arg2.view.read (Elt F) (harg2.unread x1)) i) (by sl_kernel_rfl) ?_
  simp only [harg1.read_unread, harg2.read_unread, harg3.read_unread, harg4.read_unread, harg5.read_unread, harg6.read_unread, View.read_writes_junk_eq_canon] <;> rfl
theorem runA_P12 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.2.2.2.2.2.1 = P12 x0 x1 (W1 x2 x3) (hfull x0 x1 (W1 x2 x3)) := by
  refine Eq.trans (b := P12 (arg1.view.read (Elt F) (harg1.unread x0)) (arg2.view.read (Elt F) (harg2.unread x1)) (arg15.view.read (Elt F) (arg15.view.writes (Elt F) arg15.view.junk (PS0 (arg3.view.read (Elt F) (harg3.unread x2)) (arg4.view.read (Elt F) (harg4.unread x3))))) (View.ld (arg17.view.read (Elt F) (arg17.view.writes (Elt F) arg17.view.junk (PT2 (arg1.view.read (Elt F) (harg1.unread x0)) (arg2.view.read (Elt F) (harg2.unread x1)) (arg15.view.read (Elt F) (arg15.view.writes (Elt F) arg15.view.junk (PS0 (arg3.view.read (Elt F) (harg3.unread x2)) (arg4.view.read (Elt F) (harg4.unread x3)))))))) (Rect.unit (s := S256x2816) ![0, 0] S256x2816.size inb_S256x2816_S256x2816_0_0))) (by sl_kernel_rfl) ?_
  simp only [harg1.read_unread, harg2.read_unread, harg3.read_unread, harg4.read_unread, harg5.read_unread, harg6.read_unread, View.read_writes_junk_eq_canon] <;> rfl
theorem runA_P13 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.2.2.2.2.2.2.1 = P13 x0 x1 (W1 x2 x3) i := by
  refine Eq.trans (b := P13 (arg1.view.read (Elt F) (harg1.unread x0)) (arg2.view.read (Elt F) (harg2.unread x1)) (arg15.view.read (Elt F) (arg15.view.writes (Elt F) arg15.view.junk (PS0 (arg3.view.read (Elt F) (harg3.unread x2)) (arg4.view.read (Elt F) (harg4.unread x3))))) i) (by sl_kernel_rfl) ?_
  simp only [harg1.read_unread, harg2.read_unread, harg3.read_unread, harg4.read_unread, harg5.read_unread, harg6.read_unread, View.read_writes_junk_eq_canon] <;> rfl
theorem runA_PS0 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.2.2.2.2.2.2.2.1 = PS0 x2 x3 := by
  refine Eq.trans (b := PS0 (arg3.view.read (Elt F) (harg3.unread x2)) (arg4.view.read (Elt F) (harg4.unread x3))) (by sl_kernel_rfl) ?_
  simp only [harg3.read_unread, harg4.read_unread] <;> rfl
theorem runA_PS1 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.2.2.2.2.2.2.2.2.1 = PS1 x4 x5 := by
  refine Eq.trans (b := PS1 (arg5.view.read (Elt F) (harg5.unread x4)) (arg6.view.read (Elt F) (harg6.unread x5))) (by sl_kernel_rfl) ?_
  simp only [harg5.read_unread, harg6.read_unread] <;> rfl
end

end Cert.KernelIdeal.Run

end
-- ==== Proof.RunB.lean ====
/- Case B of the kernel body, run over its skeleton. -/
module

public import proofs.«01_k».proof.Proof.RunA

@[expose] public section

-- membership in a rectangle of long extents recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- Case B of the body (every later point), run on whole staging memrefs: the lists of pieces its stores leave in each output and
    in the scratch, with the proof that it runs. The two scale outputs (windows 11 and 13) are stored one row at a time, so
    their buffers come in at named contents and go out with the pieces written over them. -/
noncomputable def kernelRun0_B (c : Dev nD) (i : grid0.Coords) (arg1 : Memref sig .tc .vmem S1x256x1024 .bf16) (harg1 : arg1.IsWhole) (arg2 : Memref sig .tc .vmem S1x1024 .f32) (harg2 : arg2.IsWhole) (arg3 : Memref sig .tc .vmem S512x6912 .i8) (harg3 : arg3.IsWhole) (arg4 : Memref sig .tc .vmem S8x6912 .f32) (harg4 : arg4.IsWhole) (arg5 : Memref sig .tc .vmem S1408x1024 .i8) (harg5 : arg5.IsWhole) (arg6 : Memref sig .tc .vmem S22x1024 .f32) (harg6 : arg6.IsWhole) (arg7 : Memref sig .tc .vmem S1x1024x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S1x256x1024 .bf16) (harg10 : arg10.IsWhole) (arg11 : Memref sig .tc .vmem S1x256x1024 .fp8e4m3) (harg11 : arg11.IsWhole) (arg12 : Memref sig .tc .vmem S8x256 .f32) (harg12 : arg12.IsWhole) (arg13 : Memref sig .tc .vmem S1x256x2816 .fp8e4m3) (harg13 : arg13.IsWhole) (arg14 : Memref sig .tc .vmem S8x256 .f32) (harg14 : arg14.IsWhole) (arg15 : Memref sig .tc .vmem S1024x6912 .bf16) (harg15 : arg15.IsWhole) (arg16 : Memref sig .tc .vmem S2816x1024 .bf16) (harg16 : arg16.IsWhole) (arg17 : Memref sig .tc .vmem S256x2816 .f32) (harg17 : arg17.IsWhole) (hc0 : ¬cond0_0 i)
    (x0 : Vec F S1x256x1024 .bf16) (x1 : Vec F S1x1024 .f32) (x2 : Vec F S512x6912 .i8) (x3 : Vec F S8x6912 .f32) (x4 : Vec F S1408x1024 .i8) (x5 : Vec F S22x1024 .f32) (xs0 : Vec F S1024x6912 .bf16) (xs1 : Vec F S2816x1024 .bf16) :
    Σ' (L6 : List (View.Piece (Elt F) S1x1024x256 .bf16)), Σ' (L7 : List (View.Piece (Elt F) S1x128x256 .bf16)), Σ' (L8 : List (View.Piece (Elt F) S1x128x256 .bf16)), Σ' (L9 : List (View.Piece (Elt F) S1x256x1024 .bf16)), Σ' (L10 : List (View.Piece (Elt F) S1x256x1024 .fp8e4m3)), Σ' (L11 : List (View.Piece (Elt F) S8x256 .f32)), Σ' (L12 : List (View.Piece (Elt F) S1x256x2816 .fp8e4m3)), Σ' (L13 : List (View.Piece (Elt F) S8x256 .f32)), Σ' (LS0 : List (View.Piece (Elt F) S1024x6912 .bf16)), Σ' (LS1 : List (View.Piece (Elt F) S2816x1024 .bf16)), { LT2 : List (View.Piece (Elt F) S256x2816 .f32) //
      ∀ (y11 y13 : Vec F S8x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare y11 ∗ (∃ d, owns (c : Thread nD τ) arg13 fullShare d) ∗ owns (c : Thread nD τ) arg14 fullShare y13 ∗ owns (c : Thread nD τ) arg15 fullShare xs0 ∗ owns (c : Thread nD τ) arg16 fullShare xs1 ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (arg12.view.loc (c : Thread nD τ) ↦[arg12.view.set]{fullShare} arg12.view.writes (Elt F) (harg12.unread y11) L11) ∗ (∃ f, arg13.view.loc (c : Thread nD τ) ↦[arg13.view.set]{fullShare} arg13.view.writes (Elt F) f L12) ∗ (arg14.view.loc (c : Thread nD τ) ↦[arg14.view.set]{fullShare} arg14.view.writes (Elt F) (harg14.unread y13) L13) ∗ owns (c : Thread nD τ) arg15 fullShare xs0 ∗ owns (c : Thread nD τ) arg16 fullShare xs1 ∗ (∃ f, arg17.view.loc (c : Thread nD τ) ↦[arg17.view.set]{fullShare} arg17.view.writes (Elt F) f LT2)) -∗ K ⟨⟩))
          ⊢ wp frame (wpE (defs₀ (F := F)) Variants.none c none) E (cc0_palm_input i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, [], [], ?_, fun y11 y13 E K => ?run⟩
  case run =>
    simp only [cc0_palm_input_eq_skeleton]; unfold cc0_palm_input_skel
    simp only [k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%f11, %hf11, H11⟩, ⟨%d12, %f12, -, H12⟩, ⟨%f13, %hf13, H13⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg14.eq_unread hf13; obtain rfl := harg12.eq_unread hf11; obtain rfl := harg15.eq_unread hfs0; obtain rfl := harg16.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexact H11
    isplitl [H12]; · iexists _; iexact H12
    isplitl [H13]; · iexact H13
    isplitl [HS0]
    · iexists _; isplitr; · ipureintro; exact harg15.read_unread _
      iexact HS0
    isplitl [HS1]
    · iexists _; isplitr; · ipureintro; exact harg16.read_unread _
      iexact HS1
    iexists _; iexact HS2

end Cert.KernelIdeal.Run

end
-- ==== Proof.EqB.lean ====
/- What case B of the body stores is the piece lists of `KPieces`. -/
module

public import proofs.«01_k».proof.Proof.RunB
public import proofs.«01_k».proof.Proof.KPieces

@[expose] public section

-- membership in a rectangle of long extents recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg1 : Memref sig .tc .vmem S1x256x1024 .bf16) (harg1 : arg1.IsWhole) (arg2 : Memref sig .tc .vmem S1x1024 .f32) (harg2 : arg2.IsWhole) (arg3 : Memref sig .tc .vmem S512x6912 .i8) (harg3 : arg3.IsWhole) (arg4 : Memref sig .tc .vmem S8x6912 .f32) (harg4 : arg4.IsWhole) (arg5 : Memref sig .tc .vmem S1408x1024 .i8) (harg5 : arg5.IsWhole) (arg6 : Memref sig .tc .vmem S22x1024 .f32) (harg6 : arg6.IsWhole) (arg7 : Memref sig .tc .vmem S1x1024x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S1x256x1024 .bf16) (harg10 : arg10.IsWhole) (arg11 : Memref sig .tc .vmem S1x256x1024 .fp8e4m3) (harg11 : arg11.IsWhole) (arg12 : Memref sig .tc .vmem S8x256 .f32) (harg12 : arg12.IsWhole) (arg13 : Memref sig .tc .vmem S1x256x2816 .fp8e4m3) (harg13 : arg13.IsWhole) (arg14 : Memref sig .tc .vmem S8x256 .f32) (harg14 : arg14.IsWhole) (arg15 : Memref sig .tc .vmem S1024x6912 .bf16) (harg15 : arg15.IsWhole) (arg16 : Memref sig .tc .vmem S2816x1024 .bf16) (harg16 : arg16.IsWhole) (arg17 : Memref sig .tc .vmem S256x2816 .f32) (harg17 : arg17.IsWhole) (hc0 : ¬cond0_0 i)
  (x0 : Vec F S1x256x1024 .bf16) (x1 : Vec F S1x1024 .f32) (x2 : Vec F S512x6912 .i8) (x3 : Vec F S8x6912 .f32) (x4 : Vec F S1408x1024 .i8) (x5 : Vec F S22x1024 .f32) (xs0 : Vec F S1024x6912 .bf16) (xs1 : Vec F S2816x1024 .bf16)

theorem runB_P6 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 xs1).1 = P6 x0 x1 xs0 := by
  refine Eq.trans (b := P6 (arg1.view.read (Elt F) (harg1.unread x0)) (arg2.view.read (Elt F) (harg2.unread x1)) (arg15.view.read (Elt F) (harg15.unread xs0))) (by sl_kernel_rfl) ?_
  simp only [harg1.read_unread, harg2.read_unread, harg15.read_unread, harg16.read_unread, View.read_writes_junk_eq_canon] <;> rfl
theorem runB_P7 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 xs1).2.1 = P7 x0 x1 xs0 := by
  refine Eq.trans (b := P7 (arg1.view.read (Elt F) (harg1.unread x0)) (arg2.view.read (Elt F) (harg2.unread x1)) (arg15.view.read (Elt F) (harg15.unread xs0))) (by sl_kernel_rfl) ?_
  simp only [harg1.read_unread, harg2.read_unread, harg15.read_unread, harg16.read_unread, View.read_writes_junk_eq_canon] <;> rfl
theorem runB_P8 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 xs1).2.2.1 = P8 x0 x1 xs0 := by
  refine Eq.trans (b := P8 (arg1.view.read (Elt F) (harg1.unread x0)) (arg2.view.read (Elt F) (harg2.unread x1)) (arg15.view.read (Elt F) (harg15.unread xs0))) (by sl_kernel_rfl) ?_
  simp only [harg1.read_unread, harg2.read_unread, harg15.read_unread, harg16.read_unread, View.read_writes_junk_eq_canon] <;> rfl
theorem runB_P9 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 xs1).2.2.2.1 = P9 x0 x1 xs0 xs1 (hfull x0 x1 xs0) := by
  refine Eq.trans (b := P9 (arg1.view.read (Elt F) (harg1.unread x0)) (arg2.view.read (Elt F) (harg2.unread x1)) (arg15.view.read (Elt F) (harg15.unread xs0)) (arg16.view.read (Elt F) (harg16.unread xs1)) (View.ld (arg17.view.read (Elt F) (arg17.view.writes (Elt F) arg17.view.junk (PT2 (arg1.view.read (Elt F) (harg1.unread x0)) (arg2.view.read (Elt F) (harg2.unread x1)) (arg15.view.read (Elt F) (harg15.unread xs0))))) (Rect.unit (s := S256x2816) ![0, 0] S256x2816.size inb_S256x2816_S256x2816_0_0))) (by sl_kernel_rfl) ?_
  simp only [harg1.read_unread, harg2.read_unread, harg15.read_unread, harg16.read_unread, View.read_writes_junk_eq_canon] <;> rfl
theorem runB_P10 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 xs1).2.2.2.2.1 = P10 x0 x1 := by
  refine Eq.trans (b := P10 (arg1.view.read (Elt F) (harg1.unread x0)) (arg2.view.read (Elt F) (harg2.unread x1))) (by sl_kernel_rfl) ?_
  simp only [harg1.read_unread, harg2.read_unread, harg15.read_unread, harg16.read_unread, View.read_writes_junk_eq_canon] <;> rfl
theorem runB_P11 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 xs1).2.2.2.2.2.1 = P11 x0 x1 i := by
  refine Eq.trans (b := P11 (arg1.view.read (Elt F) (harg1.unread x0)) (arg2.view.read (Elt F) (harg2.unread x1)) i) (by sl_kernel_rfl) ?_
  simp only [harg1.read_unread, harg2.read_unread, harg15.read_unread, harg16.read_unread, View.read_writes_junk_eq_canon] <;> rfl
theorem runB_P12 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 xs1).2.2.2.2.2.2.1 = P12 x0 x1 xs0 (hfull x0 x1 xs0) := by
  refine Eq.trans (b := P12 (arg1.view.read (Elt F) (harg1.unread x0)) (arg2.view.read (Elt F) (harg2.unread x1)) (arg15.view.read (Elt F) (harg15.unread xs0)) (View.ld (arg17.view.read (Elt F) (arg17.view.writes (Elt F) arg17.view.junk (PT2 (arg1.view.read (Elt F) (harg1.unread x0)) (arg2.view.read (Elt F) (harg2.unread x1)) (arg15.view.read (Elt F) (harg15.unread xs0))))) (Rect.unit (s := S256x2816) ![0, 0] S256x2816.size inb_S256x2816_S256x2816_0_0))) (by sl_kernel_rfl) ?_
  simp only [harg1.read_unread, harg2.read_unread, harg15.read_unread, harg16.read_unread, View.read_writes_junk_eq_canon] <;> rfl
theorem runB_P13 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 xs1).2.2.2.2.2.2.2.1 = P13 x0 x1 xs0 i := by
  refine Eq.trans (b := P13 (arg1.view.read (Elt F) (harg1.unread x0)) (arg2.view.read (Elt F) (harg2.unread x1)) (arg15.view.read (Elt F) (harg15.unread xs0)) i) (by sl_kernel_rfl) ?_
  simp only [harg1.read_unread, harg2.read_unread, harg15.read_unread, harg16.read_unread, View.read_writes_junk_eq_canon] <;> rfl
end

end Cert.KernelIdeal.Run

end
-- ==== Proof.KBody.lean ====
/- The kernel body in its two cases, with what it stores named. -/
module

public import proofs.«01_k».proof.Proof.EqA
public import proofs.«01_k».proof.Proof.EqB

@[expose] public section

-- membership in a rectangle of long extents recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A of the body is proved to do, at any lists of stores. -/
def SpecA (c : Dev nD) (i : grid0.Coords) (arg1 : Memref sig .tc .vmem S1x256x1024 .bf16) (harg1 : arg1.IsWhole) (arg2 : Memref sig .tc .vmem S1x1024 .f32) (harg2 : arg2.IsWhole) (arg3 : Memref sig .tc .vmem S512x6912 .i8) (harg3 : arg3.IsWhole) (arg4 : Memref sig .tc .vmem S8x6912 .f32) (harg4 : arg4.IsWhole) (arg5 : Memref sig .tc .vmem S1408x1024 .i8) (harg5 : arg5.IsWhole) (arg6 : Memref sig .tc .vmem S22x1024 .f32) (harg6 : arg6.IsWhole) (arg7 : Memref sig .tc .vmem S1x1024x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S1x256x1024 .bf16) (harg10 : arg10.IsWhole) (arg11 : Memref sig .tc .vmem S1x256x1024 .fp8e4m3) (harg11 : arg11.IsWhole) (arg12 : Memref sig .tc .vmem S8x256 .f32) (harg12 : arg12.IsWhole) (arg13 : Memref sig .tc .vmem S1x256x2816 .fp8e4m3) (harg13 : arg13.IsWhole) (arg14 : Memref sig .tc .vmem S8x256 .f32) (harg14 : arg14.IsWhole) (arg15 : Memref sig .tc .vmem S1024x6912 .bf16) (harg15 : arg15.IsWhole) (arg16 : Memref sig .tc .vmem S2816x1024 .bf16) (harg16 : arg16.IsWhole) (arg17 : Memref sig .tc .vmem S256x2816 .f32) (harg17 : arg17.IsWhole) (hc0 : cond0_0 i)
    (x0 : Vec F S1x256x1024 .bf16) (x1 : Vec F S1x1024 .f32) (x2 : Vec F S512x6912 .i8) (x3 : Vec F S8x6912 .f32) (x4 : Vec F S1408x1024 .i8) (x5 : Vec F S22x1024 .f32)
    (y11 y13 : Vec F S8x256 .f32) (E : Set ℕ) (K : PUnit → sProp 𝕄) (L6 : List (View.Piece (Elt F) S1x1024x256 .bf16)) (L7 : List (View.Piece (Elt F) S1x128x256 .bf16)) (L8 : List (View.Piece (Elt F) S1x128x256 .bf16)) (L9 : List (View.Piece (Elt F) S1x256x1024 .bf16)) (L10 : List (View.Piece (Elt F) S1x256x1024 .fp8e4m3)) (L11 : List (View.Piece (Elt F) S8x256 .f32)) (L12 : List (View.Piece (Elt F) S1x256x2816 .fp8e4m3)) (L13 : List (View.Piece (Elt F) S8x256 .f32)) (LS0 : List (View.Piece (Elt F) S1024x6912 .bf16)) (LS1 : List (View.Piece (Elt F) S2816x1024 .bf16)) (LT2 : List (View.Piece (Elt F) S256x2816 .f32)) : Prop :=
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare y11 ∗ (∃ d, owns (c : Thread nD τ) arg13 fullShare d) ∗ owns (c : Thread nD τ) arg14 fullShare y13 ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (arg12.view.loc (c : Thread nD τ) ↦[arg12.view.set]{fullShare} arg12.view.writes (Elt F) (harg12.unread y11) L11) ∗ (∃ f, arg13.view.loc (c : Thread nD τ) ↦[arg13.view.set]{fullShare} arg13.view.writes (Elt F) f L12) ∗ (arg14.view.loc (c : Thread nD τ) ↦[arg14.view.set]{fullShare} arg14.view.writes (Elt F) (harg14.unread y13) L13) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LT2)) -∗ K ⟨⟩))
          ⊢ wp frame (wpE (defs₀ (F := F)) Variants.none c none) E (cc0_palm_input i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K

theorem specA_congr (c : Dev nD) (i : grid0.Coords) (arg1 : Memref sig .tc .vmem S1x256x1024 .bf16) (harg1 : arg1.IsWhole) (arg2 : Memref sig .tc .vmem S1x1024 .f32) (harg2 : arg2.IsWhole) (arg3 : Memref sig .tc .vmem S512x6912 .i8) (harg3 : arg3.IsWhole) (arg4 : Memref sig .tc .vmem S8x6912 .f32) (harg4 : arg4.IsWhole) (arg5 : Memref sig .tc .vmem S1408x1024 .i8) (harg5 : arg5.IsWhole) (arg6 : Memref sig .tc .vmem S22x1024 .f32) (harg6 : arg6.IsWhole) (arg7 : Memref sig .tc .vmem S1x1024x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S1x256x1024 .bf16) (harg10 : arg10.IsWhole) (arg11 : Memref sig .tc .vmem S1x256x1024 .fp8e4m3) (harg11 : arg11.IsWhole) (arg12 : Memref sig .tc .vmem S8x256 .f32) (harg12 : arg12.IsWhole) (arg13 : Memref sig .tc .vmem S1x256x2816 .fp8e4m3) (harg13 : arg13.IsWhole) (arg14 : Memref sig .tc .vmem S8x256 .f32) (harg14 : arg14.IsWhole) (arg15 : Memref sig .tc .vmem S1024x6912 .bf16) (harg15 : arg15.IsWhole) (arg16 : Memref sig .tc .vmem S2816x1024 .bf16) (harg16 : arg16.IsWhole) (arg17 : Memref sig .tc .vmem S256x2816 .f32) (harg17 : arg17.IsWhole) (hc0 : cond0_0 i)
    (x0 : Vec F S1x256x1024 .bf16) (x1 : Vec F S1x1024 .f32) (x2 : Vec F S512x6912 .i8) (x3 : Vec F S8x6912 .f32) (x4 : Vec F S1408x1024 .i8) (x5 : Vec F S22x1024 .f32)
    (y11 y13 : Vec F S8x256 .f32) (E : Set ℕ) (K : PUnit → sProp 𝕄) {L6 L6p : List (View.Piece (Elt F) S1x1024x256 .bf16)} {L7 L7p : List (View.Piece (Elt F) S1x128x256 .bf16)} {L8 L8p : List (View.Piece (Elt F) S1x128x256 .bf16)} {L9 L9p : List (View.Piece (Elt F) S1x256x1024 .bf16)} {L10 L10p : List (View.Piece (Elt F) S1x256x1024 .fp8e4m3)} {L11 L11p : List (View.Piece (Elt F) S8x256 .f32)} {L12 L12p : List (View.Piece (Elt F) S1x256x2816 .fp8e4m3)} {L13 L13p : List (View.Piece (Elt F) S8x256 .f32)} {LS0 LS0p : List (View.Piece (Elt F) S1024x6912 .bf16)} {LS1 LS1p : List (View.Piece (Elt F) S2816x1024 .bf16)} (LT2 : List (View.Piece (Elt F) S256x2816 .f32)) (eL6 : L6 = L6p) (eL7 : L7 = L7p) (eL8 : L8 = L8p) (eL9 : L9 = L9p) (eL10 : L10 = L10p) (eL11 : L11 = L11p) (eL12 : L12 = L12p) (eL13 : L13 = L13p) (eLS0 : LS0 = LS0p) (eLS1 : LS1 = LS1p)
    (h : SpecA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 y11 y13 E K L6 L7 L8 L9 L10 L11 L12 L13 LS0 LS1 LT2) : SpecA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 y11 y13 E K L6p L7p L8p L9p L10p L11p L12p L13p LS0p LS1p LT2 := by
  subst eL6 eL7 eL8 eL9 eL10 eL11 eL12 eL13 eLS0 eLS1
  exact h

/-- Case A of the body, the stored lists named: `kernelRun0_A` with its lists replaced by those of `KPieces`. -/
theorem body_A (c : Dev nD) (i : grid0.Coords) (arg1 : Memref sig .tc .vmem S1x256x1024 .bf16) (harg1 : arg1.IsWhole) (arg2 : Memref sig .tc .vmem S1x1024 .f32) (harg2 : arg2.IsWhole) (arg3 : Memref sig .tc .vmem S512x6912 .i8) (harg3 : arg3.IsWhole) (arg4 : Memref sig .tc .vmem S8x6912 .f32) (harg4 : arg4.IsWhole) (arg5 : Memref sig .tc .vmem S1408x1024 .i8) (harg5 : arg5.IsWhole) (arg6 : Memref sig .tc .vmem S22x1024 .f32) (harg6 : arg6.IsWhole) (arg7 : Memref sig .tc .vmem S1x1024x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S1x256x1024 .bf16) (harg10 : arg10.IsWhole) (arg11 : Memref sig .tc .vmem S1x256x1024 .fp8e4m3) (harg11 : arg11.IsWhole) (arg12 : Memref sig .tc .vmem S8x256 .f32) (harg12 : arg12.IsWhole) (arg13 : Memref sig .tc .vmem S1x256x2816 .fp8e4m3) (harg13 : arg13.IsWhole) (arg14 : Memref sig .tc .vmem S8x256 .f32) (harg14 : arg14.IsWhole) (arg15 : Memref sig .tc .vmem S1024x6912 .bf16) (harg15 : arg15.IsWhole) (arg16 : Memref sig .tc .vmem S2816x1024 .bf16) (harg16 : arg16.IsWhole) (arg17 : Memref sig .tc .vmem S256x2816 .f32) (harg17 : arg17.IsWhole) (hc0 : cond0_0 i)
    (x0 : Vec F S1x256x1024 .bf16) (x1 : Vec F S1x1024 .f32) (x2 : Vec F S512x6912 .i8) (x3 : Vec F S8x6912 .f32) (x4 : Vec F S1408x1024 .i8) (x5 : Vec F S22x1024 .f32)
    (y11 y13 : Vec F S8x256 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare y11 ∗ (∃ d, owns (c : Thread nD τ) arg13 fullShare d) ∗ owns (c : Thread nD τ) arg14 fullShare y13 ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f (P6 x0 x1 (W1 x2 x3))) ∗ (∃ f, arg8.view.loc (c : Thread nD τ) ↦[arg8.view.set]{fullShare} arg8.view.writes (Elt F) f (P7 x0 x1 (W1 x2 x3))) ∗ (∃ f, arg9.view.loc (c : Thread nD τ) ↦[arg9.view.set]{fullShare} arg9.view.writes (Elt F) f (P8 x0 x1 (W1 x2 x3))) ∗ (∃ f, arg10.view.loc (c : Thread nD τ) ↦[arg10.view.set]{fullShare} arg10.view.writes (Elt F) f (P9 x0 x1 (W1 x2 x3) (W2 x4 x5) (hfull x0 x1 (W1 x2 x3)))) ∗ (∃ f, arg11.view.loc (c : Thread nD τ) ↦[arg11.view.set]{fullShare} arg11.view.writes (Elt F) f (P10 x0 x1)) ∗ (arg12.view.loc (c : Thread nD τ) ↦[arg12.view.set]{fullShare} arg12.view.writes (Elt F) (harg12.unread y11) (P11 x0 x1 i)) ∗ (∃ f, arg13.view.loc (c : Thread nD τ) ↦[arg13.view.set]{fullShare} arg13.view.writes (Elt F) f (P12 x0 x1 (W1 x2 x3) (hfull x0 x1 (W1 x2 x3)))) ∗ (arg14.view.loc (c : Thread nD τ) ↦[arg14.view.set]{fullShare} arg14.view.writes (Elt F) (harg14.unread y13) (P13 x0 x1 (W1 x2 x3) i)) ∗ (∃ f, arg15.view.loc (c : Thread nD τ) ↦[arg15.view.set]{fullShare} arg15.view.writes (Elt F) f (PS0 x2 x3)) ∗ (∃ f, arg16.view.loc (c : Thread nD τ) ↦[arg16.view.set]{fullShare} arg16.view.writes (Elt F) f (PS1 x4 x5)) ∗ (∃ d, owns (c : Thread nD τ) arg17 fullShare d)) -∗ K ⟨⟩))
          ⊢ wp frame (wpE (defs₀ (F := F)) Variants.none c none) E (cc0_palm_input i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have h := specA_congr c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 y11 y13 E K _ (runA_P6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5) (runA_P7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5) (runA_P8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5) (runA_P9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5) (runA_P10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5) (runA_P11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5) (runA_P12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5) (runA_P13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5) (runA_PS0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5) (runA_PS1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5) ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.2.2.2.2.2.2.2.2.2.2 y11 y13 E K)
  unfold SpecA at h
  iintro ⟨H0, H1, H2, H3, H4, H5, H6, H7, H8, H9, H10, H11, H12, H13, HS0, HS1, HS2, HK⟩
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  iintro ⟨H0, H1, H2, H3, H4, H5, H6, H7, H8, H9, H10, H11, H12, H13, HS0, HS1, ⟨%fT2, HS2⟩⟩
  iapply HK
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  iexists _; unfold owns; iexists _; isplitr
  swap; · iexact HS2
  ipureintro; rfl

/-- What case B of the body is proved to do, at any lists of stores. -/
def SpecB (c : Dev nD) (i : grid0.Coords) (arg1 : Memref sig .tc .vmem S1x256x1024 .bf16) (harg1 : arg1.IsWhole) (arg2 : Memref sig .tc .vmem S1x1024 .f32) (harg2 : arg2.IsWhole) (arg3 : Memref sig .tc .vmem S512x6912 .i8) (harg3 : arg3.IsWhole) (arg4 : Memref sig .tc .vmem S8x6912 .f32) (harg4 : arg4.IsWhole) (arg5 : Memref sig .tc .vmem S1408x1024 .i8) (harg5 : arg5.IsWhole) (arg6 : Memref sig .tc .vmem S22x1024 .f32) (harg6 : arg6.IsWhole) (arg7 : Memref sig .tc .vmem S1x1024x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S1x256x1024 .bf16) (harg10 : arg10.IsWhole) (arg11 : Memref sig .tc .vmem S1x256x1024 .fp8e4m3) (harg11 : arg11.IsWhole) (arg12 : Memref sig .tc .vmem S8x256 .f32) (harg12 : arg12.IsWhole) (arg13 : Memref sig .tc .vmem S1x256x2816 .fp8e4m3) (harg13 : arg13.IsWhole) (arg14 : Memref sig .tc .vmem S8x256 .f32) (harg14 : arg14.IsWhole) (arg15 : Memref sig .tc .vmem S1024x6912 .bf16) (harg15 : arg15.IsWhole) (arg16 : Memref sig .tc .vmem S2816x1024 .bf16) (harg16 : arg16.IsWhole) (arg17 : Memref sig .tc .vmem S256x2816 .f32) (harg17 : arg17.IsWhole) (hc0 : ¬cond0_0 i)
    (x0 : Vec F S1x256x1024 .bf16) (x1 : Vec F S1x1024 .f32) (x2 : Vec F S512x6912 .i8) (x3 : Vec F S8x6912 .f32) (x4 : Vec F S1408x1024 .i8) (x5 : Vec F S22x1024 .f32) (xs0 : Vec F S1024x6912 .bf16) (xs1 : Vec F S2816x1024 .bf16)
    (y11 y13 : Vec F S8x256 .f32) (E : Set ℕ) (K : PUnit → sProp 𝕄) (L6 : List (View.Piece (Elt F) S1x1024x256 .bf16)) (L7 : List (View.Piece (Elt F) S1x128x256 .bf16)) (L8 : List (View.Piece (Elt F) S1x128x256 .bf16)) (L9 : List (View.Piece (Elt F) S1x256x1024 .bf16)) (L10 : List (View.Piece (Elt F) S1x256x1024 .fp8e4m3)) (L11 : List (View.Piece (Elt F) S8x256 .f32)) (L12 : List (View.Piece (Elt F) S1x256x2816 .fp8e4m3)) (L13 : List (View.Piece (Elt F) S8x256 .f32)) (LT2 : List (View.Piece (Elt F) S256x2816 .f32)) : Prop :=
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare y11 ∗ (∃ d, owns (c : Thread nD τ) arg13 fullShare d) ∗ owns (c : Thread nD τ) arg14 fullShare y13 ∗ owns (c : Thread nD τ) arg15 fullShare xs0 ∗ owns (c : Thread nD τ) arg16 fullShare xs1 ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (arg12.view.loc (c : Thread nD τ) ↦[arg12.view.set]{fullShare} arg12.view.writes (Elt F) (harg12.unread y11) L11) ∗ (∃ f, arg13.view.loc (c : Thread nD τ) ↦[arg13.view.set]{fullShare} arg13.view.writes (Elt F) f L12) ∗ (arg14.view.loc (c : Thread nD τ) ↦[arg14.view.set]{fullShare} arg14.view.writes (Elt F) (harg14.unread y13) L13) ∗ owns (c : Thread nD τ) arg15 fullShare xs0 ∗ owns (c : Thread nD τ) arg16 fullShare xs1 ∗ (∃ f, arg17.view.loc (c : Thread nD τ) ↦[arg17.view.set]{fullShare} arg17.view.writes (Elt F) f LT2)) -∗ K ⟨⟩))
          ⊢ wp frame (wpE (defs₀ (F := F)) Variants.none c none) E (cc0_palm_input i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K

theorem specB_congr (c : Dev nD) (i : grid0.Coords) (arg1 : Memref sig .tc .vmem S1x256x1024 .bf16) (harg1 : arg1.IsWhole) (arg2 : Memref sig .tc .vmem S1x1024 .f32) (harg2 : arg2.IsWhole) (arg3 : Memref sig .tc .vmem S512x6912 .i8) (harg3 : arg3.IsWhole) (arg4 : Memref sig .tc .vmem S8x6912 .f32) (harg4 : arg4.IsWhole) (arg5 : Memref sig .tc .vmem S1408x1024 .i8) (harg5 : arg5.IsWhole) (arg6 : Memref sig .tc .vmem S22x1024 .f32) (harg6 : arg6.IsWhole) (arg7 : Memref sig .tc .vmem S1x1024x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S1x256x1024 .bf16) (harg10 : arg10.IsWhole) (arg11 : Memref sig .tc .vmem S1x256x1024 .fp8e4m3) (harg11 : arg11.IsWhole) (arg12 : Memref sig .tc .vmem S8x256 .f32) (harg12 : arg12.IsWhole) (arg13 : Memref sig .tc .vmem S1x256x2816 .fp8e4m3) (harg13 : arg13.IsWhole) (arg14 : Memref sig .tc .vmem S8x256 .f32) (harg14 : arg14.IsWhole) (arg15 : Memref sig .tc .vmem S1024x6912 .bf16) (harg15 : arg15.IsWhole) (arg16 : Memref sig .tc .vmem S2816x1024 .bf16) (harg16 : arg16.IsWhole) (arg17 : Memref sig .tc .vmem S256x2816 .f32) (harg17 : arg17.IsWhole) (hc0 : ¬cond0_0 i)
    (x0 : Vec F S1x256x1024 .bf16) (x1 : Vec F S1x1024 .f32) (x2 : Vec F S512x6912 .i8) (x3 : Vec F S8x6912 .f32) (x4 : Vec F S1408x1024 .i8) (x5 : Vec F S22x1024 .f32) (xs0 : Vec F S1024x6912 .bf16) (xs1 : Vec F S2816x1024 .bf16)
    (y11 y13 : Vec F S8x256 .f32) (E : Set ℕ) (K : PUnit → sProp 𝕄) {L6 L6p : List (View.Piece (Elt F) S1x1024x256 .bf16)} {L7 L7p : List (View.Piece (Elt F) S1x128x256 .bf16)} {L8 L8p : List (View.Piece (Elt F) S1x128x256 .bf16)} {L9 L9p : List (View.Piece (Elt F) S1x256x1024 .bf16)} {L10 L10p : List (View.Piece (Elt F) S1x256x1024 .fp8e4m3)} {L11 L11p : List (View.Piece (Elt F) S8x256 .f32)} {L12 L12p : List (View.Piece (Elt F) S1x256x2816 .fp8e4m3)} {L13 L13p : List (View.Piece (Elt F) S8x256 .f32)} (LT2 : List (View.Piece (Elt F) S256x2816 .f32)) (eL6 : L6 = L6p) (eL7 : L7 = L7p) (eL8 : L8 = L8p) (eL9 : L9 = L9p) (eL10 : L10 = L10p) (eL11 : L11 = L11p) (eL12 : L12 = L12p) (eL13 : L13 = L13p)
    (h : SpecB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 xs1 y11 y13 E K L6 L7 L8 L9 L10 L11 L12 L13 LT2) : SpecB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 xs1 y11 y13 E K L6p L7p L8p L9p L10p L11p L12p L13p LT2 := by
  subst eL6 eL7 eL8 eL9 eL10 eL11 eL12 eL13
  exact h

/-- Case B of the body, the stored lists named: `kernelRun0_B` with its lists replaced by those of `KPieces`. -/
theorem body_B (c : Dev nD) (i : grid0.Coords) (arg1 : Memref sig .tc .vmem S1x256x1024 .bf16) (harg1 : arg1.IsWhole) (arg2 : Memref sig .tc .vmem S1x1024 .f32) (harg2 : arg2.IsWhole) (arg3 : Memref sig .tc .vmem S512x6912 .i8) (harg3 : arg3.IsWhole) (arg4 : Memref sig .tc .vmem S8x6912 .f32) (harg4 : arg4.IsWhole) (arg5 : Memref sig .tc .vmem S1408x1024 .i8) (harg5 : arg5.IsWhole) (arg6 : Memref sig .tc .vmem S22x1024 .f32) (harg6 : arg6.IsWhole) (arg7 : Memref sig .tc .vmem S1x1024x256 .bf16) (harg7 : arg7.IsWhole) (arg8 : Memref sig .tc .vmem S1x128x256 .bf16) (harg8 : arg8.IsWhole) (arg9 : Memref sig .tc .vmem S1x128x256 .bf16) (harg9 : arg9.IsWhole) (arg10 : Memref sig .tc .vmem S1x256x1024 .bf16) (harg10 : arg10.IsWhole) (arg11 : Memref sig .tc .vmem S1x256x1024 .fp8e4m3) (harg11 : arg11.IsWhole) (arg12 : Memref sig .tc .vmem S8x256 .f32) (harg12 : arg12.IsWhole) (arg13 : Memref sig .tc .vmem S1x256x2816 .fp8e4m3) (harg13 : arg13.IsWhole) (arg14 : Memref sig .tc .vmem S8x256 .f32) (harg14 : arg14.IsWhole) (arg15 : Memref sig .tc .vmem S1024x6912 .bf16) (harg15 : arg15.IsWhole) (arg16 : Memref sig .tc .vmem S2816x1024 .bf16) (harg16 : arg16.IsWhole) (arg17 : Memref sig .tc .vmem S256x2816 .f32) (harg17 : arg17.IsWhole) (hc0 : ¬cond0_0 i)
    (x0 : Vec F S1x256x1024 .bf16) (x1 : Vec F S1x1024 .f32) (x2 : Vec F S512x6912 .i8) (x3 : Vec F S8x6912 .f32) (x4 : Vec F S1408x1024 .i8) (x5 : Vec F S22x1024 .f32) (xs0 : Vec F S1024x6912 .bf16) (xs1 : Vec F S2816x1024 .bf16)
    (y11 y13 : Vec F S8x256 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare y11 ∗ (∃ d, owns (c : Thread nD τ) arg13 fullShare d) ∗ owns (c : Thread nD τ) arg14 fullShare y13 ∗ owns (c : Thread nD τ) arg15 fullShare xs0 ∗ owns (c : Thread nD τ) arg16 fullShare xs1 ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f (P6 x0 x1 xs0)) ∗ (∃ f, arg8.view.loc (c : Thread nD τ) ↦[arg8.view.set]{fullShare} arg8.view.writes (Elt F) f (P7 x0 x1 xs0)) ∗ (∃ f, arg9.view.loc (c : Thread nD τ) ↦[arg9.view.set]{fullShare} arg9.view.writes (Elt F) f (P8 x0 x1 xs0)) ∗ (∃ f, arg10.view.loc (c : Thread nD τ) ↦[arg10.view.set]{fullShare} arg10.view.writes (Elt F) f (P9 x0 x1 xs0 xs1 (hfull x0 x1 xs0))) ∗ (∃ f, arg11.view.loc (c : Thread nD τ) ↦[arg11.view.set]{fullShare} arg11.view.writes (Elt F) f (P10 x0 x1)) ∗ (arg12.view.loc (c : Thread nD τ) ↦[arg12.view.set]{fullShare} arg12.view.writes (Elt F) (harg12.unread y11) (P11 x0 x1 i)) ∗ (∃ f, arg13.view.loc (c : Thread nD τ) ↦[arg13.view.set]{fullShare} arg13.view.writes (Elt F) f (P12 x0 x1 xs0 (hfull x0 x1 xs0))) ∗ (arg14.view.loc (c : Thread nD τ) ↦[arg14.view.set]{fullShare} arg14.view.writes (Elt F) (harg14.unread y13) (P13 x0 x1 xs0 i)) ∗ owns (c : Thread nD τ) arg15 fullShare xs0 ∗ owns (c : Thread nD τ) arg16 fullShare xs1 ∗ (∃ d, owns (c : Thread nD τ) arg17 fullShare d)) -∗ K ⟨⟩))
          ⊢ wp frame (wpE (defs₀ (F := F)) Variants.none c none) E (cc0_palm_input i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have h := specB_congr c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 xs1 y11 y13 E K _ (runB_P6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 xs1) (runB_P7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 xs1) (runB_P8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 xs1) (runB_P9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 xs1) (runB_P10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 xs1) (runB_P11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 xs1) (runB_P12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 xs1) (runB_P13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 xs1) ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 xs1).2.2.2.2.2.2.2.2.2.2.2 y11 y13 E K)
  unfold SpecB at h
  iintro ⟨H0, H1, H2, H3, H4, H5, H6, H7, H8, H9, H10, H11, H12, H13, HS0, HS1, HS2, HK⟩
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  iintro ⟨H0, H1, H2, H3, H4, H5, H6, H7, H8, H9, H10, H11, H12, H13, HS0, HS1, ⟨%fT2, HS2⟩⟩
  iapply HK
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  iexists _; unfold owns; iexists _; isplitr
  swap; · iexact HS2
  ipureintro; rfl

end Cert.KernelIdeal.Run

end
-- ==== Proof.KFrame.lean ====
/- The frame of the kernel over the extended reals or the bits, and what its output arrays hold after it. -/
module

public import proofs.«01_k».proof.Proof.KBody
public import Idealize.ShloMosaic.Lib.Pipeline.DatRel
public import Idealize.ShloMosaic.Lib.WritesUnit
public import Idealize.ShloMosaic.Lib.Pipeline.Value
public import Idealize.ShloMosaic.Lib.Claim

@[expose] public section

-- membership in a rectangle of long extents recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stored lists cover their buffers -/

section Covers
variable (xb : Vec F S1x256x1024 .bf16) (g : Vec F S1x1024 .f32) (w : Vec F S1024x6912 .bf16) (wd : Vec F S2816x1024 .bf16) (hf : Vec F S256x2816 .f32)
variable (x2 : Vec F S512x6912 .i8) (x3 : Vec F S8x6912 .f32) (x4 : Vec F S1408x1024 .i8) (x5 : Vec F S22x1024 .f32)
theorem cover_P6 : ∀ y, ∃ p ∈ P6 xb g w, y ∈ p.1.set := View.cover_of_tiledL (P6 xb g w) ![1, 256, 256] (by sl_kernel_rfl)
theorem cover_P7 : ∀ y, ∃ p ∈ P7 xb g w, y ∈ p.1.set := View.cover_of_tiledL (P7 xb g w) S1x128x256.size (by sl_kernel_rfl)
theorem cover_P8 : ∀ y, ∃ p ∈ P8 xb g w, y ∈ p.1.set := View.cover_of_tiledL (P8 xb g w) S1x128x256.size (by sl_kernel_rfl)
theorem cover_P9 : ∀ y, ∃ p ∈ P9 xb g w wd hf, y ∈ p.1.set := View.cover_of_tiledL (P9 xb g w wd hf) ![1, 256, 256] (by sl_kernel_rfl)
theorem cover_P10 : ∀ y, ∃ p ∈ P10 xb g, y ∈ p.1.set := View.cover_of_tiledL (P10 xb g) S1x256x1024.size (by sl_kernel_rfl)
theorem cover_P12 : ∀ y, ∃ p ∈ P12 xb g w hf, y ∈ p.1.set := View.cover_of_tiledL (P12 xb g w hf) S1x256x2816.size (by sl_kernel_rfl)
theorem cover_PS0 : ∀ y, ∃ p ∈ PS0 x2 x3, y ∈ p.1.set := View.cover_of_tiledL (PS0 x2 x3) ![128, 256] (by sl_kernel_rfl)
theorem cover_PS1 : ∀ y, ∃ p ∈ PS1 x4 x5, y ∈ p.1.set := View.cover_of_tiledL (PS1 x4 x5) ![128, 256] (by sl_kernel_rfl)
theorem cover_PT2 : ∀ y, ∃ p ∈ PT2 xb g w, y ∈ p.1.set := View.cover_of_tiledL (PT2 xb g w) ![256, 256] (by sl_kernel_rfl)
end Covers

/-! ## The rows of the two scale outputs -/

/-- The stored row sits at the point's own row. -/
theorem off1_eq (t : Fin cfg0.N) : k0_off1 (grid0.coords t) = ![t.val, 0] := by
  have ht : t.val < 8 := Nat.lt_of_lt_of_eq t.isLt N_0
  have e0 : (grid0.coords t 0).val = t.val / 1 % 8 := Pipeline.Grid.coords_val t 0 (by decide) rfl
  have e1 : (grid0.coords t 0).val = t.val := by omega
  have h8 : ∀ k : Fin 8, (Scalar.indexCast (BitVec.ofNat 32 k.val)).toNat = k.val := by decide
  unfold k0_off1
  rw [e1]
  exact congrArg (fun z => ![z, 0]) (h8 ⟨t.val, ht⟩)

/-- The rows up to the point `t` are those of `rows`. -/
def rowsOK (rows : Fin cfg0.N → Vec F S1x256 .f32) (t : Fin cfg0.N) (X : Vec F S8x256 .f32) : Prop :=
  ∀ (y : S8x256.Idx) (j : Fin cfg0.N) (x : S1x256.Idx), (y 0).val = j.val → (y 1).val = (x 1).val → j.val ≤ t.val → X y = rows j x

/-- Storing the point's row over rows that were right below it leaves rows right up to it. -/
theorem rowsOK_step (rows : Fin cfg0.N → Vec F S1x256 .f32) (t : Fin cfg0.N) (arg : Memref sig .tc .vmem S8x256 .f32) (harg : arg.IsWhole)
    (Y : Vec F S8x256 .f32) (hY : ∀ t' : Fin cfg0.N, t'.val + 1 = t.val → rowsOK rows t' Y) :
    rowsOK rows t (arg.view.read (Elt F) (arg.view.writes (Elt F) (harg.unread Y) [⟨rowR (grid0.coords t), rows t⟩])) := by
  intro y j x h0 h1 hj
  unfold rowR
  by_cases e : j.val = t.val
  · have hjt : j = t := Fin.ext e
    subst hjt
    have hx0 : (x 0).val = 0 := by have : (x 0).val < 1 := (x 0).isLt; omega
    exact View.read_writes_cons_rows_of_mem _ _ (k0_off1_inb _) _ _ y x (off1_eq j) (by rw [h0, hx0]; rfl) h1
  · rw [View.read_writes_cons_rows_of_not_mem _ _ (k0_off1_inb _) _ _ y (off1_eq t) (W := 1) rfl (by omega)]
    show arg.view.read (Elt F) (harg.unread Y) y = _
    rw [harg.read_unread]
    exact hY ⟨t.val - 1, by omega⟩ (by show t.val - 1 + 1 = t.val; omega) y j x h0 h1 (by show j.val ≤ t.val - 1; omega)

/-! ## The carried scratch and the proof data -/

/-- The batch's block of `x` and the norm's weights at a point. -/
def xblk (c : Dev nD) (t : Fin cfg0.N) : Vec F S1x256x1024 .bf16 := iblk m c 0 t
def gblk (c : Dev nD) (t : Fin cfg0.N) : Vec F S1x1024 .f32 := iblk m c 1 t
/-- The first point. -/
def pt0 : Fin cfg0.N := ⟨0, by rw [show cfg0.N = 8 from N_0]; decide⟩
/-- The dequantised weights, as the first point leaves them. -/
def W1m (c : Dev nD) : Vec F S1024x6912 .bf16 := W1 (iblk m c 2 pt0) (iblk m c 3 pt0)
def W2m (c : Dev nD) : Vec F S2816x1024 .bf16 := W2 (iblk m c 4 pt0) (iblk m c 5 pt0)
/-- The rows of the two scale outputs. -/
def xrow (c : Dev nD) (t : Fin cfg0.N) : Vec F S1x256 .f32 := k0_pay363 (xe (xblk m c t) (gblk m c t))
def hrow (c : Dev nD) (t : Fin cfg0.N) : Vec F S1x256 .f32 := k0_pay363 (he (xblk m c t) (gblk m c t) (W1m m c))

/-- What the pipeline holds of the scratch before a point: anything before the first, then the weights. -/
def PhiS (c : Dev nD) : (n : ℕ) → n ≤ cfg0.N → sProp 𝕄
  | 0, _ => Pipeline.ΦA spec0 c
  | _ + 1, _ => iprop(iprop(owns (c : Thread nD τ) scM0_0 fullShare (W1m m c) ∗ owns (c : Thread nD τ) scM0_1 fullShare (W2m m c) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) :
    PhiS m c n h = iprop(iprop(owns (c : Thread nD τ) scM0_0 fullShare (W1m m c) ∗ owns (c : Thread nD τ) scM0_1 fullShare (W2m m c) ∗ (∃ d, owns (c : Thread nD τ) scM0_2 fullShare d)) ∗ (∃ r, prngReg c r)) := by
  cases n with
  | zero => exact absurd rfl hz
  | succ n => rfl

/-- The two windows held to a predicate rather than named: the scale outputs, stored a row a point. -/
def forgets0 : Fin 14 → Bool := fun w => w.val == 11 || w.val == 13

/-- The predicate: the rows so far are right. -/
def Rl (c : Dev nD) (w : Fin cfg0.W) (t : Fin cfg0.N) (X : (cfg0.win w).block.Idx → Elt F (cfg0.win w).elt) : Prop :=
  match w, X with
  | ⟨11, _⟩, X => rowsOK (xrow m c) t X
  | ⟨13, _⟩, X => rowsOK (hrow m c) t X
  | _, _ => True

/-- The proof data: what the body leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => View.canon (P6 (xblk m c t) (gblk m c t) (W1m m c))
    | ⟨7, _⟩ => View.canon (P7 (xblk m c t) (gblk m c t) (W1m m c))
    | ⟨8, _⟩ => View.canon (P8 (xblk m c t) (gblk m c t) (W1m m c))
    | ⟨9, _⟩ => View.canon (P9 (xblk m c t) (gblk m c t) (W1m m c) (W2m m c) (hfull (xblk m c t) (gblk m c t) (W1m m c)))
    | ⟨10, _⟩ => View.canon (P10 (xblk m c t) (gblk m c t))
    | ⟨11, h⟩ => Pipeline.Dat.unnamed (cfg := cfg0) ⟨11, h⟩ t
    | ⟨12, _⟩ => View.canon (P12 (xblk m c t) (gblk m c t) (W1m m c) (hfull (xblk m c t) (gblk m c t) (W1m m c)))
    | ⟨13, h⟩ => Pipeline.Dat.unnamed (cfg := cfg0) ⟨13, h⟩ t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = View.canon (P6 (xblk m c t) (gblk m c t) (W1m m c)) := by dsimp only [dats]
theorem after0_7 (c : Dev nD) (t : Fin cfg0.N) : (dats m 0 c).after 7 t = View.canon (P7 (xblk m c t) (gblk m c t) (W1m m c)) := by dsimp only [dats]
theorem after0_8 (c : Dev nD) (t : Fin cfg0.N) : (dats m 0 c).after 8 t = View.canon (P8 (xblk m c t) (gblk m c t) (W1m m c)) := by dsimp only [dats]
theorem after0_9 (c : Dev nD) (t : Fin cfg0.N) : (dats m 0 c).after 9 t = View.canon (P9 (xblk m c t) (gblk m c t) (W1m m c) (W2m m c) (hfull (xblk m c t) (gblk m c t) (W1m m c))) := by dsimp only [dats]
theorem after0_10 (c : Dev nD) (t : Fin cfg0.N) : (dats m 0 c).after 10 t = View.canon (P10 (xblk m c t) (gblk m c t)) := by dsimp only [dats]
theorem after0_12 (c : Dev nD) (t : Fin cfg0.N) : (dats m 0 c).after 12 t = View.canon (P12 (xblk m c t) (gblk m c t) (W1m m c) (hfull (xblk m c t) (gblk m c t) (W1m m c))) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The data with the two windows held to their predicate. -/
abbrev rdat (c : Dev nD) : Pipeline.RDat τ (Elt F) Unit ℕ (UR sig nD τ) ℕ cfg0 c := (dats m 0 c).toRRel forgets0 (Rl m c)

/-- A buffer found at a point, of a window that no earlier point wrote back, meets the predicate of the point before. -/
theorem finds_below (c : Dev nD) (w : Fin cfg0.W) (hw : forgets0 w = true) (ho : (cfg0.win w).isOut = true)
    (hfl : ∀ t, (cfg0.win w).flush t = true ↔ t.val % 8 = 7) (t t' : Fin cfg0.N) (h : t'.val + 1 = t.val)
    (Y : (cfg0.win w).block.Idx → Elt F (cfg0.win w).elt) (hY : (rdat m c).Finds w t Y) : Rl m c w t' Y := by
  have hN : t.val < 8 := Nat.lt_of_lt_of_eq t.isLt N_0
  rw [(rdat m c).finds_of_pos (Pipeline.Window.fetch_out _ ho t) (by omega)] at hY
  have e : (⟨t.val - 1, Nat.lt_of_le_of_lt (Nat.sub_le _ _) t.isLt⟩ : Fin cfg0.N) = t' := Fin.ext (by show t.val - 1 = t'.val; omega)
  rw [e] at hY
  rcases hY with hY | hY
  · rw [hfl] at hY; omega
  · exact (dats m 0 c).toRRel_leaves hw hY

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ Y, ⌜(rdat m c).Finds 11 t Y⌝ ∗ owns (c : Thread nD τ) (ms0_11 t) fullShare Y)
    ∗ (∃ d, owns (c : Thread nD τ) (ms0_12 t) fullShare ((dats m 0 c).before 12 t d))
    ∗ (∃ Y, ⌜(rdat m c).Finds 13 t Y⌝ ∗ owns (c : Thread nD τ) (ms0_13 t) fullShare Y))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ X, ⌜Rl m c 11 t X⌝ ∗ owns (c : Thread nD τ) (ms0_11 t) fullShare X)
    ∗ owns (c : Thread nD τ) (ms0_12 t) fullShare ((dats m 0 c).after 12 t)
    ∗ (∃ X, ⌜Rl m c 13 t X⌝ ∗ owns (c : Thread nD τ) (ms0_13 t) fullShare X))

set_option maxHeartbeats 12800000 in
/-- The body at any point: the first dequantises the weights, the others find them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8, after0_9, after0_10, after0_12]
  rw [show (dats m 0 c).Φ t.succ = PhiS m c (t.val + 1) t.isLt from rfl, PhiS_pos m c (t.val + 1) t.isLt (Nat.succ_ne_zero _)]
  have hN : t.val < 8 := lt_of_lt_of_eq t.isLt (show cfg0.N = 8 from N_0)
  by_cases h0 : t.val % 8 = 0
  · have hz : t.val = 0 := by omega
    have ht : t = pt0 := Fin.ext hz
    subst ht
    rw [PhiS_castSucc m c, PhiS_zero m c _ _ hz, PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %hY11, H11⟩, ⟨%d12, H12⟩, ⟨%Y13, %hY13, H13⟩⟩
    iapply (body_A c (grid0.coords pt0) _ _ _ _ _ _ _ _ _ _ _ _ _ _ _ _ _ _ _ _ _ _ _ _ _ _ _ _ _ _ _ _ _ _ ((hcond0_0 pt0).mpr h0) (xblk m c pt0) (gblk m c pt0) (iblk m c 2 pt0) (iblk m c 3 pt0) (iblk m c 4 pt0) (iblk m c 5 pt0) Y11 Y13 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexact H11
    isplitl [H12]; · iexists _; iexact H12
    isplitl [H13]; · iexact H13
    isplitl [HS0]; · iexact HS0
    isplitl [HS1]; · iexact HS1
    isplitl [HS2]; · iexact HS2
    iintro ⟨H0, H1, H2, H3, H4, H5, ⟨%e6, H6⟩, ⟨%e7, H7⟩, ⟨%e8, H8⟩, ⟨%e9, H9⟩, ⟨%e10, H10⟩, H11, ⟨%e12, H12⟩, H13, ⟨%es0, HS0⟩, ⟨%es1, HS1⟩, HS2⟩
    isplitl [HS0 HS1 HS2 Hg]
    · isplitl [HS0 HS1 HS2]
      · isplitl [HS0]
        · unfold owns; iexists _; isplitr
          swap; · iexact HS0
          ipureintro; exact View.read_writes_eq_canon _ _ _ (cover_PS0 _ _)
        isplitl [HS1]
        · unfold owns; iexists _; isplitr
          swap; · iexact HS1
          ipureintro; exact View.read_writes_eq_canon _ _ _ (cover_PS1 _ _)
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (cover_P6 _ _ _)
    isplitl [H7]
    · unfold owns; iexists _; isplitr
      swap; · iexact H7
      ipureintro; exact View.read_writes_eq_canon _ _ _ (cover_P7 _ _ _)
    isplitl [H8]
    · unfold owns; iexists _; isplitr
      swap; · iexact H8
      ipureintro; exact View.read_writes_eq_canon _ _ _ (cover_P8 _ _ _)
    isplitl [H9]
    · unfold owns; iexists _; isplitr
      swap; · iexact H9
      ipureintro; exact View.read_writes_eq_canon _ _ _ (cover_P9 _ _ _ _ _)
    isplitl [H10]
    · unfold owns; iexists _; isplitr
      swap; · iexact H10
      ipureintro; exact View.read_writes_eq_canon _ _ _ (cover_P10 _ _)
    isplitl [H11]
    · iexists _; isplitr
      swap
      · unfold owns; iexists _; isplitr
        swap; · iexact H11
        ipureintro; rfl
      ipureintro
      exact rowsOK_step (xrow m c) pt0 (ms0_11 pt0) (hs0_11 pt0) Y11 fun t' h => finds_below m c 11 rfl rfl flush0_11 pt0 t' h Y11 hY11
    isplitl [H12]
    · unfold owns; iexists _; isplitr
      swap; · iexact H12
      ipureintro; exact View.read_writes_eq_canon _ _ _ (cover_P12 _ _ _ _)
    iexists _; isplitr
    swap
    · unfold owns; iexists _; isplitr
      swap; · iexact H13
      ipureintro; rfl
    ipureintro
    exact rowsOK_step (hrow m c) pt0 (ms0_13 pt0) (hs0_13 pt0) Y13 fun t' h => finds_below m c 13 rfl rfl flush0_13 pt0 t' h Y13 hY13
  · have hz : t.val ≠ 0 := fun h => h0 (by omega)
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %hY11, H11⟩, ⟨%d12, H12⟩, ⟨%Y13, %hY13, H13⟩⟩
    iapply (body_B c (grid0.coords t) _ _ _ _ _ _ _ _ _ _ _ _ _ _ _ _ _ _ _ _ _ _ _ _ _ _ _ _ _ _ _ _ _ _ (fun h => h0 ((hcond0_0 t).mp h)) (xblk m c t) (gblk m c t) (iblk m c 2 t) (iblk m c 3 t) (iblk m c 4 t) (iblk m c 5 t) _ _ Y11 Y13 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexact H11
    isplitl [H12]; · iexists _; iexact H12
    isplitl [H13]; · iexact H13
    isplitl [HS0]; · iexact HS0
    isplitl [HS1]; · iexact HS1
    isplitl [HS2]; · iexact HS2
    iintro ⟨H0, H1, H2, H3, H4, H5, ⟨%e6, H6⟩, ⟨%e7, H7⟩, ⟨%e8, H8⟩, ⟨%e9, H9⟩, ⟨%e10, H10⟩, H11, ⟨%e12, H12⟩, H13, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_eq_canon _ _ _ (cover_P6 _ _ _)
    isplitl [H7]
    · unfold owns; iexists _; isplitr
      swap; · iexact H7
      ipureintro; exact View.read_writes_eq_canon _ _ _ (cover_P7 _ _ _)
    isplitl [H8]
    · unfold owns; iexists _; isplitr
      swap; · iexact H8
      ipureintro; exact View.read_writes_eq_canon _ _ _ (cover_P8 _ _ _)
    isplitl [H9]
    · unfold owns; iexists _; isplitr
      swap; · iexact H9
      ipureintro; exact View.read_writes_eq_canon _ _ _ (cover_P9 _ _ _ _ _)
    isplitl [H10]
    · unfold owns; iexists _; isplitr
      swap; · iexact H10
      ipureintro; exact View.read_writes_eq_canon _ _ _ (cover_P10 _ _)
    isplitl [H11]
    · iexists _; isplitr
      swap
      · unfold owns; iexists _; isplitr
        swap; · iexact H11
        ipureintro; rfl
      ipureintro
      exact rowsOK_step (xrow m c) t (ms0_11 t) (hs0_11 t) Y11 fun t' h => finds_below m c 11 rfl rfl flush0_11 t t' h Y11 hY11
    isplitl [H12]
    · unfold owns; iexists _; isplitr
      swap; · iexact H12
      ipureintro; exact View.read_writes_eq_canon _ _ _ (cover_P12 _ _ _ _)
    iexists _; isplitr
    swap
    · unfold owns; iexists _; isplitr
      swap; · iexact H13
      ipureintro; rfl
    ipureintro
    exact rowsOK_step (hrow m c) t (ms0_13 t) (hs0_13 t) Y13 fun t' h => finds_below m c 13 rfl rfl flush0_13 t t' h Y13 hY13

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

/-! ## The run and the frame -/

set_option backward.isDefEq.respectTransparency.types false in
/-- The launch at any exact data with the two windows held to a predicate. -/
theorem run_rel (dats : (p : Fin 1) → (c : Dev nD) → Dat τ (Elt F) Unit ℕ (UR sig nD τ) ℕ (cfgs p) c)
    (Rl : (c : Dev nD) → (w : Fin (cfgs 0).W) → Fin (cfgs 0).N → (((cfgs 0).win w).block.Idx → Elt F ((cfgs 0).win w).elt) → Prop)
    (hbody : ∀ c, Pipeline.BodyObligationRel (dats 0 c) (defs₀ (F := F)) Variants.none () Set.univ forgets0 (Rl c))
    (hshare : ∀ c w, (dats 0 c).share w = fullShare) (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last (cfgs 0).N) ⊢ Pipeline.ΦA spec0 c) :
    θ_run defs (onTc (τ := τ) (main (F := F))) (s₀ m ρ) (fun r => (Pipeline.RDat.FramePost (cfgs 0) (fun c => (dats 0 c).toRRel forgets0 (Rl c)) (V m)) r ∧ r.2.sem = fun _ => 0) :=
  Pipeline.RDat.θ_run_frame_track cfgs (0 : Fin 1) launch0 defs₀ Variants.none (fun c => (dats 0 c).toRRel forgets0 (Rl c)) m ρ main
    (fun c => (hbody c).toRRel) hshare howed (V m) (hmain m Variants.none) hA hin hout _ (fun _ h => h)

theorem run_main_quiescent : θ_run defs (onTc (τ := τ) (main (F := F))) (s₀ m ρ) (fun r => (Pipeline.RDat.FramePost (cfgs 0) (rdat m) (V m)) r ∧ r.2.sem = fun _ => 0) :=
  run_rel m ρ (dats m) (Rl m) (body_obligation m) (fun c => (dats m 0 c).share_full fun _ => rfl) (fun _ _ => rfl) (A_eq m) (hin m) (hout m)

theorem run_main : θ_run defs (onTc (τ := τ) (main (F := F))) (s₀ m ρ) (Pipeline.RDat.FramePost (cfgs 0) (rdat m) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (rdat m) (A_eq m) (run_main m ρ)

/-- The frame: terminates, the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Run

end
-- ==== Proof.KValue.lean ====
/- What the kernel's eight result arrays hold when it has finished: for six of them, index by index, the block the grid point of that
batch leaves there; for the two arrays of scales, row by row, what each point stored in its row. -/
module

public import proofs.«01_k».proof.Proof.KFrame

@[expose] public section

-- membership in a rectangle of long extents recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the run, an array the data names holds what the data names. -/
theorem named (r : PUnit × MemSt nD τ sig (Elt F)) (h : Pipeline.RDat.FramePost (cfgs 0) (rdat m) (V m) r) (c : Dev nD) (w : Fin 14) (hw : forgets0 w = false) :
    r.2.mem ((cfg0.spec w).arr.view.loc (c : Thread nD τ)) = (dats m 0 c).arrAt w cfg0.N :=
  ((dats m 0 c).toR_arrAt_iff w _ _).mp (((dats m 0 c).toR.override_arrAt (by simp only [hw]) _ _).mp ((h c).1 w))

/-! ## Output window 6 -/

/-- The block of the array that holds index `i`, numbered in the order the points write the blocks back (one per point),
    `i`'s place in it, and the point that writes it back. -/
abbrev run6Of (i : S8x1024x256.Idx) : ℕ := 1 * ((i 0).val / 1 - 0) + 1 * ((i 1).val / 1024 - 0) + 1 * ((i 2).val / 256 - 0)
set_option backward.proofsInPublic true in
abbrev loc6Of (i : S8x1024x256.Idx) : S1x1024x256.Idx := fun a => match a with
  | ⟨0, _⟩ => ⟨(i 0).val % 1, Nat.mod_lt _ (by decide)⟩
  | ⟨1, _⟩ => ⟨(i 1).val % 1024, Nat.mod_lt _ (by decide)⟩
  | ⟨2, _⟩ => ⟨(i 2).val % 256, Nat.mod_lt _ (by decide)⟩
abbrev pt6Of (i : S8x1024x256.Idx) : ℕ := run6Of i

/-- The block point `t` leaves in output window 6. -/
def D6 (c : Dev nD) (t : Fin cfg0.N) : Vec F S1x1024x256 (cfg0.win 6).elt := View.canon (P6 (xblk m c t) (gblk m c t) (W1m m c))

/-- The array's contents: at index `i`, the block of the point that writes it back, at the index's place in the block. -/
def G6 (c : Dev nD) : Buf (Elt F) ((c : Thread nD τ).loc main_v1_0) := fun i =>
  if h : pt6Of i < cfg0.N then
    D6 m c ⟨pt6Of i, h⟩ (loc6Of i)
  else V m c (Pipeline.arrRef spec0 6) i

/-- The printed index map, decided over the grid: output window 6's block indices stay in the box, and the block number
    read off them is the point's (`t`). -/
theorem idx_facts6 : ∀ t : Fin cfg0.N, 0 ≤ win0_6.index t (0 : Fin 3) ∧ win0_6.index t (0 : Fin 3) ≤ 7
    ∧ 0 ≤ win0_6.index t (1 : Fin 3) ∧ win0_6.index t (1 : Fin 3) ≤ 0
    ∧ 0 ≤ win0_6.index t (2 : Fin 3) ∧ win0_6.index t (2 : Fin 3) ≤ 0
    ∧ 1 * (win0_6.index t (0 : Fin 3) - 0) + 1 * (win0_6.index t (1 : Fin 3) - 0) + 1 * (win0_6.index t (2 : Fin 3) - 0) = t.val :=
  (by decide +kernel : ∀ t : Fin grid0.N, _)

/-- Every block of the box is SOME flushing point's: `onto6Pt`, the point that writes back the block at place `q` of the box. -/
abbrev onto6Pt (q0 : Fin 8) (q1 : Fin 1) (q2 : Fin 1) : Fin grid0.N :=
  ⟨1 * q0.val + 1 * q1.val + 1 * q2.val, lt_of_lt_of_eq (by omega) N_0.symm⟩
theorem idx_onto6 : ∀ (q0 : Fin 8) (q1 : Fin 1) (q2 : Fin 1), ∃ t : Fin cfg0.N, (cfg0.win 6).flush t = true ∧ win0_6.index t = ![q0.val + 0, q1.val + 0, q2.val + 0] :=
  fun q0 q1 q2 => ⟨onto6Pt q0 q1 q2, (by decide +kernel : ∀ (q0 : Fin 8) (q1 : Fin 1) (q2 : Fin 1), win0_6.flush (onto6Pt q0 q1 q2) = true ∧ win0_6.index (onto6Pt q0 q1 q2) = ![q0.val + 0, q1.val + 0, q2.val + 0]) q0 q1 q2⟩

/-- What a point writes back is its block of the contents. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [show (dats m 0 c).after 6 t = D6 m c t from after0_6 m c t]
  obtain ⟨e0, e1, e2, e3⟩ := idx_facts6 t
  funext y
  have hy0 : (y 0).val < 1 := (y 0).isLt
  have hy1 : (y 1).val < 1024 := (y 1).isLt
  have hy2 : (y 2).val < 256 := (y 2).isLt
  have hb0 : (((cfg0.win 6).blk t).view.emb y 0).val = win0_6.index t (0 : Fin 3) * 1 + 1 * (y 0).val := rfl
  have hb1 : (((cfg0.win 6).blk t).view.emb y 1).val = win0_6.index t (1 : Fin 3) * 1024 + 1 * (y 1).val := rfl
  have hb2 : (((cfg0.win 6).blk t).view.emb y 2).val = win0_6.index t (2 : Fin 3) * 256 + 1 * (y 2).val := rfl
  have hr : run6Of (((cfg0.win 6).blk t).view.emb y) = t.val := by
    show 1 * ((((cfg0.win 6).blk t).view.emb y 0).val / 1 - 0) + 1 * ((((cfg0.win 6).blk t).view.emb y 1).val / 1024 - 0) + 1 * ((((cfg0.win 6).blk t).view.emb y 2).val / 256 - 0) = _
    rw [hb0, hb1, hb2]
    rw [show (win0_6.index t (0 : Fin 3) * 1 + 1 * (y 0).val) / 1 = win0_6.index t (0 : Fin 3) from by omega]; rw [show (win0_6.index t (1 : Fin 3) * 1024 + 1 * (y 1).val) / 1024 = win0_6.index t (1 : Fin 3) from by omega]; rw [show (win0_6.index t (2 : Fin 3) * 256 + 1 * (y 2).val) / 256 = win0_6.index t (2 : Fin 3) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 1 = (y 0).val; rw [hb0]; omega
    | ⟨1, _⟩ => show (((cfg0.win 6).blk t).view.emb y 1).val % 1024 = (y 1).val; rw [hb1]; omega
    | ⟨2, _⟩ => show (((cfg0.win 6).blk t).view.emb y 2).val % 256 = (y 2).val; rw [hb2]; omega
  have hp : pt6Of (((cfg0.win 6).blk t).view.emb y) = t.val := by
    exact hr
  show D6 m c t ((cfg0.win 6).xinj (grid0.coords t) y) = G6 m c (((cfg0.win 6).blk t).view.emb y)
  unfold G6
  rw [dif_pos (by rw [hp]; exact t.isLt), hl]
  exact congrArg (fun t => D6 m c t ((cfg0.win 6).xinj (grid0.coords _) y)) (Fin.ext hp.symm)

/-- An index of the array is in point `t`'s block iff each coordinate is in the block's range on its axis. -/
theorem mem_blk6 (t : Fin cfg0.N) (i : S8x1024x256.Idx) :
    i ∈ ((cfg0.win 6).blk t).view.set ↔ ∀ a : Fin 3, win0_6.index t a * S1x1024x256.size a ≤ (i a).val ∧ (i a).val < win0_6.index t a * S1x1024x256.size a + S1x1024x256.size a := by
  show i ∈ ((View.whole main_v1_0).slice (win0_6.rect t)).set ↔ _
  rw [View.set_slice_whole, Rect.mem_set_unit]
  exact Iff.rfl

/-- THE COVERED INDICES: in some flushing point's block iff inside the box those blocks fill. -/
theorem covered_iff6 (i : S8x1024x256.Idx) :
    (∃ t : Fin cfg0.N, (cfg0.win 6).flush t = true ∧ i ∈ ((cfg0.win 6).blk t).view.set) ↔ 0 ≤ (i 0).val ∧ (i 0).val < 8 ∧ 0 ≤ (i 1).val ∧ (i 1).val < 1024 ∧ 0 ≤ (i 2).val ∧ (i 2).val < 256 := by
  constructor
  · rintro ⟨t, -, hi⟩
    rw [mem_blk6] at hi
    have b0 : win0_6.index t (0 : Fin 3) * 1 ≤ (i 0).val ∧ (i 0).val < win0_6.index t (0 : Fin 3) * 1 + 1 := hi 0
    have b1 : win0_6.index t (1 : Fin 3) * 1024 ≤ (i 1).val ∧ (i 1).val < win0_6.index t (1 : Fin 3) * 1024 + 1024 := hi 1
    have b2 : win0_6.index t (2 : Fin 3) * 256 ≤ (i 2).val ∧ (i 2).val < win0_6.index t (2 : Fin 3) * 256 + 256 := hi 2
    obtain ⟨e0, e1, e2, e3⟩ := idx_facts6 t
    omega
  · intro h
    have hi0 : (i 0).val < 8 := (i 0).isLt
    have hi1 : (i 1).val < 1024 := (i 1).isLt
    have hi2 : (i 2).val < 256 := (i 2).isLt
    obtain ⟨t, hft, ht⟩ := idx_onto6 ⟨(i 0).val / 1 - 0, by omega⟩ ⟨(i 1).val / 1024 - 0, by omega⟩ ⟨(i 2).val / 256 - 0, by omega⟩
    have q0 : win0_6.index t (0 : Fin 3) = (i 0).val / 1 - 0 + 0 := congrFun ht 0
    have q1 : win0_6.index t (1 : Fin 3) = (i 1).val / 1024 - 0 + 0 := congrFun ht 1
    have q2 : win0_6.index t (2 : Fin 3) = (i 2).val / 256 - 0 + 0 := congrFun ht 2
    refine ⟨t, hft, ?_⟩
    rw [mem_blk6]
    intro a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 1024 ≤ (i 1).val ∧ (i 1).val < win0_6.index t (1 : Fin 3) * 1024 + 1024; omega
    | ⟨2, _⟩ => show win0_6.index t (2 : Fin 3) * 256 ≤ (i 2).val ∧ (i 2).val < win0_6.index t (2 : Fin 3) * 256 + 256; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 8 := (i 0).isLt; have h1 : (i 1).val < 1024 := (i 1).isLt; have h2 : (i 2).val < 256 := (i 2).isLt; omega))

/-! ## Output window 7 -/

/-- The block of the array that holds index `i`, numbered in the order the points write the blocks back (one per point),
    `i`'s place in it, and the point that writes it back. -/
abbrev run7Of (i : S8x128x256.Idx) : ℕ := 1 * ((i 0).val / 1 - 0) + 1 * ((i 1).val / 128 - 0) + 1 * ((i 2).val / 256 - 0)
set_option backward.proofsInPublic true in
abbrev loc7Of (i : S8x128x256.Idx) : S1x128x256.Idx := fun a => match a with
  | ⟨0, _⟩ => ⟨(i 0).val % 1, Nat.mod_lt _ (by decide)⟩
  | ⟨1, _⟩ => ⟨(i 1).val % 128, Nat.mod_lt _ (by decide)⟩
  | ⟨2, _⟩ => ⟨(i 2).val % 256, Nat.mod_lt _ (by decide)⟩
abbrev pt7Of (i : S8x128x256.Idx) : ℕ := run7Of i

/-- The block point `t` leaves in output window 7. -/
def D7 (c : Dev nD) (t : Fin cfg0.N) : Vec F S1x128x256 (cfg0.win 7).elt := View.canon (P7 (xblk m c t) (gblk m c t) (W1m m c))

/-- The array's contents: at index `i`, the block of the point that writes it back, at the index's place in the block. -/
def G7 (c : Dev nD) : Buf (Elt F) ((c : Thread nD τ).loc main_v1_1) := fun i =>
  if h : pt7Of i < cfg0.N then
    D7 m c ⟨pt7Of i, h⟩ (loc7Of i)
  else V m c (Pipeline.arrRef spec0 7) i

/-- The printed index map, decided over the grid: output window 7's block indices stay in the box, and the block number
    read off them is the point's (`t`). -/
theorem idx_facts7 : ∀ t : Fin cfg0.N, 0 ≤ win0_7.index t (0 : Fin 3) ∧ win0_7.index t (0 : Fin 3) ≤ 7
    ∧ 0 ≤ win0_7.index t (1 : Fin 3) ∧ win0_7.index t (1 : Fin 3) ≤ 0
    ∧ 0 ≤ win0_7.index t (2 : Fin 3) ∧ win0_7.index t (2 : Fin 3) ≤ 0
    ∧ 1 * (win0_7.index t (0 : Fin 3) - 0) + 1 * (win0_7.index t (1 : Fin 3) - 0) + 1 * (win0_7.index t (2 : Fin 3) - 0) = t.val :=
  (by decide +kernel : ∀ t : Fin grid0.N, _)

/-- Every block of the box is SOME flushing point's: `onto7Pt`, the point that writes back the block at place `q` of the box. -/
abbrev onto7Pt (q0 : Fin 8) (q1 : Fin 1) (q2 : Fin 1) : Fin grid0.N :=
  ⟨1 * q0.val + 1 * q1.val + 1 * q2.val, lt_of_lt_of_eq (by omega) N_0.symm⟩
theorem idx_onto7 : ∀ (q0 : Fin 8) (q1 : Fin 1) (q2 : Fin 1), ∃ t : Fin cfg0.N, (cfg0.win 7).flush t = true ∧ win0_7.index t = ![q0.val + 0, q1.val + 0, q2.val + 0] :=
  fun q0 q1 q2 => ⟨onto7Pt q0 q1 q2, (by decide +kernel : ∀ (q0 : Fin 8) (q1 : Fin 1) (q2 : Fin 1), win0_7.flush (onto7Pt q0 q1 q2) = true ∧ win0_7.index (onto7Pt q0 q1 q2) = ![q0.val + 0, q1.val + 0, q2.val + 0]) q0 q1 q2⟩

/-- What a point writes back is its block of the contents. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [show (dats m 0 c).after 7 t = D7 m c t from after0_7 m c t]
  obtain ⟨e0, e1, e2, e3⟩ := idx_facts7 t
  funext y
  have hy0 : (y 0).val < 1 := (y 0).isLt
  have hy1 : (y 1).val < 128 := (y 1).isLt
  have hy2 : (y 2).val < 256 := (y 2).isLt
  have hb0 : (((cfg0.win 7).blk t).view.emb y 0).val = win0_7.index t (0 : Fin 3) * 1 + 1 * (y 0).val := rfl
  have hb1 : (((cfg0.win 7).blk t).view.emb y 1).val = win0_7.index t (1 : Fin 3) * 128 + 1 * (y 1).val := rfl
  have hb2 : (((cfg0.win 7).blk t).view.emb y 2).val = win0_7.index t (2 : Fin 3) * 256 + 1 * (y 2).val := rfl
  have hr : run7Of (((cfg0.win 7).blk t).view.emb y) = t.val := by
    show 1 * ((((cfg0.win 7).blk t).view.emb y 0).val / 1 - 0) + 1 * ((((cfg0.win 7).blk t).view.emb y 1).val / 128 - 0) + 1 * ((((cfg0.win 7).blk t).view.emb y 2).val / 256 - 0) = _
    rw [hb0, hb1, hb2]
    rw [show (win0_7.index t (0 : Fin 3) * 1 + 1 * (y 0).val) / 1 = win0_7.index t (0 : Fin 3) from by omega]; rw [show (win0_7.index t (1 : Fin 3) * 128 + 1 * (y 1).val) / 128 = win0_7.index t (1 : Fin 3) from by omega]; rw [show (win0_7.index t (2 : Fin 3) * 256 + 1 * (y 2).val) / 256 = win0_7.index t (2 : Fin 3) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 1 = (y 0).val; rw [hb0]; omega
    | ⟨1, _⟩ => show (((cfg0.win 7).blk t).view.emb y 1).val % 128 = (y 1).val; rw [hb1]; omega
    | ⟨2, _⟩ => show (((cfg0.win 7).blk t).view.emb y 2).val % 256 = (y 2).val; rw [hb2]; omega
  have hp : pt7Of (((cfg0.win 7).blk t).view.emb y) = t.val := by
    exact hr
  show D7 m c t ((cfg0.win 7).xinj (grid0.coords t) y) = G7 m c (((cfg0.win 7).blk t).view.emb y)
  unfold G7
  rw [dif_pos (by rw [hp]; exact t.isLt), hl]
  exact congrArg (fun t => D7 m c t ((cfg0.win 7).xinj (grid0.coords _) y)) (Fin.ext hp.symm)

/-- An index of the array is in point `t`'s block iff each coordinate is in the block's range on its axis. -/
theorem mem_blk7 (t : Fin cfg0.N) (i : S8x128x256.Idx) :
    i ∈ ((cfg0.win 7).blk t).view.set ↔ ∀ a : Fin 3, win0_7.index t a * S1x128x256.size a ≤ (i a).val ∧ (i a).val < win0_7.index t a * S1x128x256.size a + S1x128x256.size a := by
  show i ∈ ((View.whole main_v1_1).slice (win0_7.rect t)).set ↔ _
  rw [View.set_slice_whole, Rect.mem_set_unit]
  exact Iff.rfl

/-- THE COVERED INDICES: in some flushing point's block iff inside the box those blocks fill. -/
theorem covered_iff7 (i : S8x128x256.Idx) :
    (∃ t : Fin cfg0.N, (cfg0.win 7).flush t = true ∧ i ∈ ((cfg0.win 7).blk t).view.set) ↔ 0 ≤ (i 0).val ∧ (i 0).val < 8 ∧ 0 ≤ (i 1).val ∧ (i 1).val < 128 ∧ 0 ≤ (i 2).val ∧ (i 2).val < 256 := by
  constructor
  · rintro ⟨t, -, hi⟩
    rw [mem_blk7] at hi
    have b0 : win0_7.index t (0 : Fin 3) * 1 ≤ (i 0).val ∧ (i 0).val < win0_7.index t (0 : Fin 3) * 1 + 1 := hi 0
    have b1 : win0_7.index t (1 : Fin 3) * 128 ≤ (i 1).val ∧ (i 1).val < win0_7.index t (1 : Fin 3) * 128 + 128 := hi 1
    have b2 : win0_7.index t (2 : Fin 3) * 256 ≤ (i 2).val ∧ (i 2).val < win0_7.index t (2 : Fin 3) * 256 + 256 := hi 2
    obtain ⟨e0, e1, e2, e3⟩ := idx_facts7 t
    omega
  · intro h
    have hi0 : (i 0).val < 8 := (i 0).isLt
    have hi1 : (i 1).val < 128 := (i 1).isLt
    have hi2 : (i 2).val < 256 := (i 2).isLt
    obtain ⟨t, hft, ht⟩ := idx_onto7 ⟨(i 0).val / 1 - 0, by omega⟩ ⟨(i 1).val / 128 - 0, by omega⟩ ⟨(i 2).val / 256 - 0, by omega⟩
    have q0 : win0_7.index t (0 : Fin 3) = (i 0).val / 1 - 0 + 0 := congrFun ht 0
    have q1 : win0_7.index t (1 : Fin 3) = (i 1).val / 128 - 0 + 0 := congrFun ht 1
    have q2 : win0_7.index t (2 : Fin 3) = (i 2).val / 256 - 0 + 0 := congrFun ht 2
    refine ⟨t, hft, ?_⟩
    rw [mem_blk7]
    intro a
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 128 ≤ (i 1).val ∧ (i 1).val < win0_7.index t (1 : Fin 3) * 128 + 128; omega
    | ⟨2, _⟩ => show win0_7.index t (2 : Fin 3) * 256 ≤ (i 2).val ∧ (i 2).val < win0_7.index t (2 : Fin 3) * 256 + 256; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 8 := (i 0).isLt; have h1 : (i 1).val < 128 := (i 1).isLt; have h2 : (i 2).val < 256 := (i 2).isLt; omega))

/-! ## Output window 8 -/

/-- The block of the array that holds index `i`, numbered in the order the points write the blocks back (one per point),
    `i`'s place in it, and the point that writes it back. -/
abbrev run8Of (i : S8x128x256.Idx) : ℕ := 1 * ((i 0).val / 1 - 0) + 1 * ((i 1).val / 128 - 0) + 1 * ((i 2).val / 256 - 0)
set_option backward.proofsInPublic true in
abbrev loc8Of (i : S8x128x256.Idx) : S1x128x256.Idx := fun a => match a with
  | ⟨0, _⟩ => ⟨(i 0).val % 1, Nat.mod_lt _ (by decide)⟩
  | ⟨1, _⟩ => ⟨(i 1).val % 128, Nat.mod_lt _ (by decide)⟩
  | ⟨2, _⟩ => ⟨(i 2).val % 256, Nat.mod_lt _ (by decide)⟩
abbrev pt8Of (i : S8x128x256.Idx) : ℕ := run8Of i

/-- The block point `t` leaves in output window 8. -/
def D8 (c : Dev nD) (t : Fin cfg0.N) : Vec F S1x128x256 (cfg0.win 8).elt := View.canon (P8 (xblk m c t) (gblk m c t) (W1m m c))

/-- The array's contents: at index `i`, the block of the point that writes it back, at the index's place in the block. -/
def G8 (c : Dev nD) : Buf (Elt F) ((c : Thread nD τ).loc main_v1_2) := fun i =>
  if h : pt8Of i < cfg0.N then
    D8 m c ⟨pt8Of i, h⟩ (loc8Of i)
  else V m c (Pipeline.arrRef spec0 8) i

/-- The printed index map, decided over the grid: output window 8's block indices stay in the box, and the block number
    read off them is the point's (`t`). -/
theorem idx_facts8 : ∀ t : Fin cfg0.N, 0 ≤ win0_8.index t (0 : Fin 3) ∧ win0_8.index t (0 : Fin 3) ≤ 7
    ∧ 0 ≤ win0_8.index t (1 : Fin 3) ∧ win0_8.index t (1 : Fin 3) ≤ 0
    ∧ 0 ≤ win0_8.index t (2 : Fin 3) ∧ win0_8.index t (2 : Fin 3) ≤ 0
    ∧ 1 * (win0_8.index t (0 : Fin 3) - 0) + 1 * (win0_8.index t (1 : Fin 3) - 0) + 1 * (win0_8.index t (2 : Fin 3) - 0) = t.val :=
  (by decide +kernel : ∀ t : Fin grid0.N, _)

/-- Every block of the box is SOME flushing point's: `onto8Pt`, the point that writes back the block at place `q` of the box. -/
abbrev onto8Pt (q0 : Fin 8) (q1 : Fin 1) (q2 : Fin 1) : Fin grid0.N :=
  ⟨1 * q0.val + 1 * q1.val + 1 * q2.val, lt_of_lt_of_eq (by omega) N_0.symm⟩
theorem idx_onto8 : ∀ (q0 : Fin 8) (q1 : Fin 1) (q2 : Fin 1), ∃ t : Fin cfg0.N, (cfg0.win 8).flush t = true ∧ win0_8.index t = ![q0.val + 0, q1.val + 0, q2.val + 0] :=
  fun q0 q1 q2 => ⟨onto8Pt q0 q1 q2, (by decide +kernel : ∀ (q0 : Fin 8) (q1 : Fin 1) (q2 : Fin 1), win0_8.flush (onto8Pt q0 q1 q2) = true ∧ win0_8.index (onto8Pt q0 q1 q2) = ![q0.val + 0, q1.val + 0, q2.val + 0]) q0 q1 q2⟩

/-- What a point writes back is its block of the contents. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [show (dats m 0 c).after 8 t = D8 m c t from after0_8 m c t]
  obtain ⟨e0, e1, e2, e3⟩ := idx_facts8 t
  funext y
  have hy0 : (y 0).val < 1 := (y 0).isLt
  have hy1 : (y 1).val < 128 := (y 1).isLt
  have hy2 : (y 2).val < 256 := (y 2).isLt
  have hb0 : (((cfg0.win 8).blk t).view.emb y 0).val = win0_8.index t (0 : Fin 3) * 1 + 1 * (y 0).val := rfl
  have hb1 : (((cfg0.win 8).blk t).view.emb y 1).val = win0_8.index t (1 : Fin 3) * 128 + 1 * (y 1).val := rfl
  have hb2 : (((cfg0.win 8).blk t).view.emb y 2).val = win0_8.index t (2 : Fin 3) * 256 + 1 * (y 2).val := rfl
  have hr : run8Of (((cfg0.win 8).blk t).view.emb y) = t.val := by
    show 1 * ((((cfg0.win 8).blk t).view.emb y 0).val / 1 - 0) + 1 * ((((cfg0.win 8).blk t).view.emb y 1).val / 128 - 0) + 1 * ((((cfg0.win 8).blk t).view.emb y 2).val / 256 - 0) = _
    rw [hb0, hb1, hb2]
    rw [show (win0_8.index t (0 : Fin 3) * 1 + 1 * (y 0).val) / 1 = win0_8.index t (0 : Fin 3) from by omega]; rw [show (win0_8.index t (1 : Fin 3) * 128 + 1 * (y 1).val) / 128 = win0_8.index t (1 : Fin 3) from by omega]; rw [show (win0_8.index t (2 : Fin 3) * 256 + 1 * (y 2).val) / 256 = win0_8.index t (2 : Fin 3) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 1 = (y 0).val; rw [hb0]; omega
    | ⟨1, _⟩ => show (((cfg0.win 8).blk t).view.emb y 1).val % 128 = (y 1).val; rw [hb1]; omega
    | ⟨2, _⟩ => show (((cfg0.win 8).blk t).view.emb y 2).val % 256 = (y 2).val; rw [hb2]; omega
  have hp : pt8Of (((cfg0.win 8).blk t).view.emb y) = t.val := by
    exact hr
  show D8 m c t ((cfg0.win 8).xinj (grid0.coords t) y) = G8 m c (((cfg0.win 8).blk t).view.emb y)
  unfold G8
  rw [dif_pos (by rw [hp]; exact t.isLt), hl]
  exact congrArg (fun t => D8 m c t ((cfg0.win 8).xinj (grid0.coords _) y)) (Fin.ext hp.symm)

/-- An index of the array is in point `t`'s block iff each coordinate is in the block's range on its axis. -/
theorem mem_blk8 (t : Fin cfg0.N) (i : S8x128x256.Idx) :
    i ∈ ((cfg0.win 8).blk t).view.set ↔ ∀ a : Fin 3, win0_8.index t a * S1x128x256.size a ≤ (i a).val ∧ (i a).val < win0_8.index t a * S1x128x256.size a + S1x128x256.size a := by
  show i ∈ ((View.whole main_v1_2).slice (win0_8.rect t)).set ↔ _
  rw [View.set_slice_whole, Rect.mem_set_unit]
  exact Iff.rfl

/-- THE COVERED INDICES: in some flushing point's block iff inside the box those blocks fill. -/
theorem covered_iff8 (i : S8x128x256.Idx) :
    (∃ t : Fin cfg0.N, (cfg0.win 8).flush t = true ∧ i ∈ ((cfg0.win 8).blk t).view.set) ↔ 0 ≤ (i 0).val ∧ (i 0).val < 8 ∧ 0 ≤ (i 1).val ∧ (i 1).val < 128 ∧ 0 ≤ (i 2).val ∧ (i 2).val < 256 := by
  constructor
  · rintro ⟨t, -, hi⟩
    rw [mem_blk8] at hi
    have b0 : win0_8.index t (0 : Fin 3) * 1 ≤ (i 0).val ∧ (i 0).val < win0_8.index t (0 : Fin 3) * 1 + 1 := hi 0
    have b1 : win0_8.index t (1 : Fin 3) * 128 ≤ (i 1).val ∧ (i 1).val < win0_8.index t (1 : Fin 3) * 128 + 128 := hi 1
    have b2 : win0_8.index t (2 : Fin 3) * 256 ≤ (i 2).val ∧ (i 2).val < win0_8.index t (2 : Fin 3) * 256 + 256 := hi 2
    obtain ⟨e0, e1, e2, e3⟩ := idx_facts8 t
    omega
  · intro h
    have hi0 : (i 0).val < 8 := (i 0).isLt
    have hi1 : (i 1).val < 128 := (i 1).isLt
    have hi2 : (i 2).val < 256 := (i 2).isLt
    obtain ⟨t, hft, ht⟩ := idx_onto8 ⟨(i 0).val / 1 - 0, by omega⟩ ⟨(i 1).val / 128 - 0, by omega⟩ ⟨(i 2).val / 256 - 0, by omega⟩
    have q0 : win0_8.index t (0 : Fin 3) = (i 0).val / 1 - 0 + 0 := congrFun ht 0
    have q1 : win0_8.index t (1 : Fin 3) = (i 1).val / 128 - 0 + 0 := congrFun ht 1
    have q2 : win0_8.index t (2 : Fin 3) = (i 2).val / 256 - 0 + 0 := congrFun ht 2
    refine ⟨t, hft, ?_⟩
    rw [mem_blk8]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 128 ≤ (i 1).val ∧ (i 1).val < win0_8.index t (1 : Fin 3) * 128 + 128; omega
    | ⟨2, _⟩ => show win0_8.index t (2 : Fin 3) * 256 ≤ (i 2).val ∧ (i 2).val < win0_8.index t (2 : Fin 3) * 256 + 256; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 8 := (i 0).isLt; have h1 : (i 1).val < 128 := (i 1).isLt; have h2 : (i 2).val < 256 := (i 2).isLt; omega))

/-! ## Output window 9 -/

/-- The block of the array that holds index `i`, numbered in the order the points write the blocks back (one per point),
    `i`'s place in it, and the point that writes it back. -/
abbrev run9Of (i : S8x256x1024.Idx) : ℕ := 1 * ((i 0).val / 1 - 0) + 1 * ((i 1).val / 256 - 0) + 1 * ((i 2).val / 1024 - 0)
set_option backward.proofsInPublic true in
abbrev loc9Of (i : S8x256x1024.Idx) : S1x256x1024.Idx := fun a => match a with
  | ⟨0, _⟩ => ⟨(i 0).val % 1, Nat.mod_lt _ (by decide)⟩
  | ⟨1, _⟩ => ⟨(i 1).val % 256, Nat.mod_lt _ (by decide)⟩
  | ⟨2, _⟩ => ⟨(i 2).val % 1024, Nat.mod_lt _ (by decide)⟩
abbrev pt9Of (i : S8x256x1024.Idx) : ℕ := run9Of i

/-- The block point `t` leaves in output window 9. -/
def D9 (c : Dev nD) (t : Fin cfg0.N) : Vec F S1x256x1024 (cfg0.win 9).elt := View.canon (P9 (xblk m c t) (gblk m c t) (W1m m c) (W2m m c) (hfull (xblk m c t) (gblk m c t) (W1m m c)))

/-- The array's contents: at index `i`, the block of the point that writes it back, at the index's place in the block. -/
def G9 (c : Dev nD) : Buf (Elt F) ((c : Thread nD τ).loc main_v1_3) := fun i =>
  if h : pt9Of i < cfg0.N then
    D9 m c ⟨pt9Of i, h⟩ (loc9Of i)
  else V m c (Pipeline.arrRef spec0 9) i

/-- The printed index map, decided over the grid: output window 9's block indices stay in the box, and the block number
    read off them is the point's (`t`). -/
theorem idx_facts9 : ∀ t : Fin cfg0.N, 0 ≤ win0_9.index t (0 : Fin 3) ∧ win0_9.index t (0 : Fin 3) ≤ 7
    ∧ 0 ≤ win0_9.index t (1 : Fin 3) ∧ win0_9.index t (1 : Fin 3) ≤ 0
    ∧ 0 ≤ win0_9.index t (2 : Fin 3) ∧ win0_9.index t (2 : Fin 3) ≤ 0
    ∧ 1 * (win0_9.index t (0 : Fin 3) - 0) + 1 * (win0_9.index t (1 : Fin 3) - 0) + 1 * (win0_9.index t (2 : Fin 3) - 0) = t.val :=
  (by decide +kernel : ∀ t : Fin grid0.N, _)

/-- Every block of the box is SOME flushing point's: `onto9Pt`, the point that writes back the block at place `q` of the box. -/
abbrev onto9Pt (q0 : Fin 8) (q1 : Fin 1) (q2 : Fin 1) : Fin grid0.N :=
  ⟨1 * q0.val + 1 * q1.val + 1 * q2.val, lt_of_lt_of_eq (by omega) N_0.symm⟩
theorem idx_onto9 : ∀ (q0 : Fin 8) (q1 : Fin 1) (q2 : Fin 1), ∃ t : Fin cfg0.N, (cfg0.win 9).flush t = true ∧ win0_9.index t = ![q0.val + 0, q1.val + 0, q2.val + 0] :=
  fun q0 q1 q2 => ⟨onto9Pt q0 q1 q2, (by decide +kernel : ∀ (q0 : Fin 8) (q1 : Fin 1) (q2 : Fin 1), win0_9.flush (onto9Pt q0 q1 q2) = true ∧ win0_9.index (onto9Pt q0 q1 q2) = ![q0.val + 0, q1.val + 0, q2.val + 0]) q0 q1 q2⟩

/-- What a point writes back is its block of the contents. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [show (dats m 0 c).after 9 t = D9 m c t from after0_9 m c t]
  obtain ⟨e0, e1, e2, e3⟩ := idx_facts9 t
  funext y
  have hy0 : (y 0).val < 1 := (y 0).isLt
  have hy1 : (y 1).val < 256 := (y 1).isLt
  have hy2 : (y 2).val < 1024 := (y 2).isLt
  have hb0 : (((cfg0.win 9).blk t).view.emb y 0).val = win0_9.index t (0 : Fin 3) * 1 + 1 * (y 0).val := rfl
  have hb1 : (((cfg0.win 9).blk t).view.emb y 1).val = win0_9.index t (1 : Fin 3) * 256 + 1 * (y 1).val := rfl
  have hb2 : (((cfg0.win 9).blk t).view.emb y 2).val = win0_9.index t (2 : Fin 3) * 1024 + 1 * (y 2).val := rfl
  have hr : run9Of (((cfg0.win 9).blk t).view.emb y) = t.val := by
    show 1 * ((((cfg0.win 9).blk t).view.emb y 0).val / 1 - 0) + 1 * ((((cfg0.win 9).blk t).view.emb y 1).val / 256 - 0) + 1 * ((((cfg0.win 9).blk t).view.emb y 2).val / 1024 - 0) = _
    rw [hb0, hb1, hb2]
    rw [show (win0_9.index t (0 : Fin 3) * 1 + 1 * (y 0).val) / 1 = win0_9.index t (0 : Fin 3) from by omega]; rw [show (win0_9.index t (1 : Fin 3) * 256 + 1 * (y 1).val) / 256 = win0_9.index t (1 : Fin 3) from by omega]; rw [show (win0_9.index t (2 : Fin 3) * 1024 + 1 * (y 2).val) / 1024 = win0_9.index t (2 : Fin 3) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 1 = (y 0).val; rw [hb0]; omega
    | ⟨1, _⟩ => show (((cfg0.win 9).blk t).view.emb y 1).val % 256 = (y 1).val; rw [hb1]; omega
    | ⟨2, _⟩ => show (((cfg0.win 9).blk t).view.emb y 2).val % 1024 = (y 2).val; rw [hb2]; omega
  have hp : pt9Of (((cfg0.win 9).blk t).view.emb y) = t.val := by
    exact hr
  show D9 m c t ((cfg0.win 9).xinj (grid0.coords t) y) = G9 m c (((cfg0.win 9).blk t).view.emb y)
  unfold G9
  rw [dif_pos (by rw [hp]; exact t.isLt), hl]
  exact congrArg (fun t => D9 m c t ((cfg0.win 9).xinj (grid0.coords _) y)) (Fin.ext hp.symm)

/-- An index of the array is in point `t`'s block iff each coordinate is in the block's range on its axis. -/
theorem mem_blk9 (t : Fin cfg0.N) (i : S8x256x1024.Idx) :
    i ∈ ((cfg0.win 9).blk t).view.set ↔ ∀ a : Fin 3, win0_9.index t a * S1x256x1024.size a ≤ (i a).val ∧ (i a).val < win0_9.index t a * S1x256x1024.size a + S1x256x1024.size a := by
  show i ∈ ((View.whole main_v1_3).slice (win0_9.rect t)).set ↔ _
  rw [View.set_slice_whole, Rect.mem_set_unit]
  exact Iff.rfl

/-- THE COVERED INDICES: in some flushing point's block iff inside the box those blocks fill. -/
theorem covered_iff9 (i : S8x256x1024.Idx) :
    (∃ t : Fin cfg0.N, (cfg0.win 9).flush t = true ∧ i ∈ ((cfg0.win 9).blk t).view.set) ↔ 0 ≤ (i 0).val ∧ (i 0).val < 8 ∧ 0 ≤ (i 1).val ∧ (i 1).val < 256 ∧ 0 ≤ (i 2).val ∧ (i 2).val < 1024 := by
  constructor
  · rintro ⟨t, -, hi⟩
    rw [mem_blk9] at hi
    have b0 : win0_9.index t (0 : Fin 3) * 1 ≤ (i 0).val ∧ (i 0).val < win0_9.index t (0 : Fin 3) * 1 + 1 := hi 0
    have b1 : win0_9.index t (1 : Fin 3) * 256 ≤ (i 1).val ∧ (i 1).val < win0_9.index t (1 : Fin 3) * 256 + 256 := hi 1
    have b2 : win0_9.index t (2 : Fin 3) * 1024 ≤ (i 2).val ∧ (i 2).val < win0_9.index t (2 : Fin 3) * 1024 + 1024 := hi 2
    obtain ⟨e0, e1, e2, e3⟩ := idx_facts9 t
    omega
  · intro h
    have hi0 : (i 0).val < 8 := (i 0).isLt
    have hi1 : (i 1).val < 256 := (i 1).isLt
    have hi2 : (i 2).val < 1024 := (i 2).isLt
    obtain ⟨t, hft, ht⟩ := idx_onto9 ⟨(i 0).val / 1 - 0, by omega⟩ ⟨(i 1).val / 256 - 0, by omega⟩ ⟨(i 2).val / 1024 - 0, by omega⟩
    have q0 : win0_9.index t (0 : Fin 3) = (i 0).val / 1 - 0 + 0 := congrFun ht 0
    have q1 : win0_9.index t (1 : Fin 3) = (i 1).val / 256 - 0 + 0 := congrFun ht 1
    have q2 : win0_9.index t (2 : Fin 3) = (i 2).val / 1024 - 0 + 0 := congrFun ht 2
    refine ⟨t, hft, ?_⟩
    rw [mem_blk9]
    intro a
    match a with
    | ⟨0, _⟩ => show win0_9.index t (0 : Fin 3) * 1 ≤ (i 0).val ∧ (i 0).val < win0_9.index t (0 : Fin 3) * 1 + 1; omega
    | ⟨1, _⟩ => show win0_9.index t (1 : Fin 3) * 256 ≤ (i 1).val ∧ (i 1).val < win0_9.index t (1 : Fin 3) * 256 + 256; omega
    | ⟨2, _⟩ => show win0_9.index t (2 : Fin 3) * 1024 ≤ (i 2).val ∧ (i 2).val < win0_9.index t (2 : Fin 3) * 1024 + 1024; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 8 := (i 0).isLt; have h1 : (i 1).val < 256 := (i 1).isLt; have h2 : (i 2).val < 1024 := (i 2).isLt; omega))

/-! ## Output window 10 -/

/-- The block of the array that holds index `i`, numbered in the order the points write the blocks back (one per point),
    `i`'s place in it, and the point that writes it back. -/
abbrev run10Of (i : S8x256x1024.Idx) : ℕ := 1 * ((i 0).val / 1 - 0) + 1 * ((i 1).val / 256 - 0) + 1 * ((i 2).val / 1024 - 0)
set_option backward.proofsInPublic true in
abbrev loc10Of (i : S8x256x1024.Idx) : S1x256x1024.Idx := fun a => match a with
  | ⟨0, _⟩ => ⟨(i 0).val % 1, Nat.mod_lt _ (by decide)⟩
  | ⟨1, _⟩ => ⟨(i 1).val % 256, Nat.mod_lt _ (by decide)⟩
  | ⟨2, _⟩ => ⟨(i 2).val % 1024, Nat.mod_lt _ (by decide)⟩
abbrev pt10Of (i : S8x256x1024.Idx) : ℕ := run10Of i

/-- The block point `t` leaves in output window 10. -/
def D10 (c : Dev nD) (t : Fin cfg0.N) : Vec F S1x256x1024 (cfg0.win 10).elt := View.canon (P10 (xblk m c t) (gblk m c t))

/-- The array's contents: at index `i`, the block of the point that writes it back, at the index's place in the block. -/
def G10 (c : Dev nD) : Buf (Elt F) ((c : Thread nD τ).loc main_v1_4) := fun i =>
  if h : pt10Of i < cfg0.N then
    D10 m c ⟨pt10Of i, h⟩ (loc10Of i)
  else V m c (Pipeline.arrRef spec0 10) i

/-- The printed index map, decided over the grid: output window 10's block indices stay in the box, and the block number
    read off them is the point's (`t`). -/
theorem idx_facts10 : ∀ t : Fin cfg0.N, 0 ≤ win0_10.index t (0 : Fin 3) ∧ win0_10.index t (0 : Fin 3) ≤ 7
    ∧ 0 ≤ win0_10.index t (1 : Fin 3) ∧ win0_10.index t (1 : Fin 3) ≤ 0
    ∧ 0 ≤ win0_10.index t (2 : Fin 3) ∧ win0_10.index t (2 : Fin 3) ≤ 0
    ∧ 1 * (win0_10.index t (0 : Fin 3) - 0) + 1 * (win0_10.index t (1 : Fin 3) - 0) + 1 * (win0_10.index t (2 : Fin 3) - 0) = t.val :=
  (by decide +kernel : ∀ t : Fin grid0.N, _)

/-- Every block of the box is SOME flushing point's: `onto10Pt`, the point that writes back the block at place `q` of the box. -/
abbrev onto10Pt (q0 : Fin 8) (q1 : Fin 1) (q2 : Fin 1) : Fin grid0.N :=
  ⟨1 * q0.val + 1 * q1.val + 1 * q2.val, lt_of_lt_of_eq (by omega) N_0.symm⟩
theorem idx_onto10 : ∀ (q0 : Fin 8) (q1 : Fin 1) (q2 : Fin 1), ∃ t : Fin cfg0.N, (cfg0.win 10).flush t = true ∧ win0_10.index t = ![q0.val + 0, q1.val + 0, q2.val + 0] :=
  fun q0 q1 q2 => ⟨onto10Pt q0 q1 q2, (by decide +kernel : ∀ (q0 : Fin 8) (q1 : Fin 1) (q2 : Fin 1), win0_10.flush (onto10Pt q0 q1 q2) = true ∧ win0_10.index (onto10Pt q0 q1 q2) = ![q0.val + 0, q1.val + 0, q2.val + 0]) q0 q1 q2⟩

/-- What a point writes back is its block of the contents. -/
theorem flushed10_eq (c : Dev nD) (t : Fin cfg0.N) (hf : (cfg0.win 10).flush t = true) :
    (dats m 0 c).flushed 10 t = ((cfg0.win 10).blk t).view.read (Elt F) (G10 m c) := by
  show (cfg0.win 10).cut (grid0.coords t) ((dats m 0 c).after 10 t) = _
  rw [show (dats m 0 c).after 10 t = D10 m c t from after0_10 m c t]
  obtain ⟨e0, e1, e2, e3⟩ := idx_facts10 t
  funext y
  have hy0 : (y 0).val < 1 := (y 0).isLt
  have hy1 : (y 1).val < 256 := (y 1).isLt
  have hy2 : (y 2).val < 1024 := (y 2).isLt
  have hb0 : (((cfg0.win 10).blk t).view.emb y 0).val = win0_10.index t (0 : Fin 3) * 1 + 1 * (y 0).val := rfl
  have hb1 : (((cfg0.win 10).blk t).view.emb y 1).val = win0_10.index t (1 : Fin 3) * 256 + 1 * (y 1).val := rfl
  have hb2 : (((cfg0.win 10).blk t).view.emb y 2).val = win0_10.index t (2 : Fin 3) * 1024 + 1 * (y 2).val := rfl
  have hr : run10Of (((cfg0.win 10).blk t).view.emb y) = t.val := by
    show 1 * ((((cfg0.win 10).blk t).view.emb y 0).val / 1 - 0) + 1 * ((((cfg0.win 10).blk t).view.emb y 1).val / 256 - 0) + 1 * ((((cfg0.win 10).blk t).view.emb y 2).val / 1024 - 0) = _
    rw [hb0, hb1, hb2]
    rw [show (win0_10.index t (0 : Fin 3) * 1 + 1 * (y 0).val) / 1 = win0_10.index t (0 : Fin 3) from by omega]; rw [show (win0_10.index t (1 : Fin 3) * 256 + 1 * (y 1).val) / 256 = win0_10.index t (1 : Fin 3) from by omega]; rw [show (win0_10.index t (2 : Fin 3) * 1024 + 1 * (y 2).val) / 1024 = win0_10.index t (2 : Fin 3) from by omega]
    omega
  have hl : loc10Of (((cfg0.win 10).blk t).view.emb y) = (cfg0.win 10).xinj (grid0.coords t) y := by
    funext a; apply Fin.ext
    match a with
    | ⟨0, _⟩ => show (((cfg0.win 10).blk t).view.emb y 0).val % 1 = (y 0).val; rw [hb0]; omega
    | ⟨1, _⟩ => show (((cfg0.win 10).blk t).view.emb y 1).val % 256 = (y 1).val; rw [hb1]; omega
    | ⟨2, _⟩ => show (((cfg0.win 10).blk t).view.emb y 2).val % 1024 = (y 2).val; rw [hb2]; omega
  have hp : pt10Of (((cfg0.win 10).blk t).view.emb y) = t.val := by
    exact hr
  show D10 m c t ((cfg0.win 10).xinj (grid0.coords t) y) = G10 m c (((cfg0.win 10).blk t).view.emb y)
  unfold G10
  rw [dif_pos (by rw [hp]; exact t.isLt), hl]
  exact congrArg (fun t => D10 m c t ((cfg0.win 10).xinj (grid0.coords _) y)) (Fin.ext hp.symm)

/-- An index of the array is in point `t`'s block iff each coordinate is in the block's range on its axis. -/
theorem mem_blk10 (t : Fin cfg0.N) (i : S8x256x1024.Idx) :
    i ∈ ((cfg0.win 10).blk t).view.set ↔ ∀ a : Fin 3, win0_10.index t a * S1x256x1024.size a ≤ (i a).val ∧ (i a).val < win0_10.index t a * S1x256x1024.size a + S1x256x1024.size a := by
  show i ∈ ((View.whole main_v1_4).slice (win0_10.rect t)).set ↔ _
  rw [View.set_slice_whole, Rect.mem_set_unit]
  exact Iff.rfl

/-- THE COVERED INDICES: in some flushing point's block iff inside the box those blocks fill. -/
theorem covered_iff10 (i : S8x256x1024.Idx) :
    (∃ t : Fin cfg0.N, (cfg0.win 10).flush t = true ∧ i ∈ ((cfg0.win 10).blk t).view.set) ↔ 0 ≤ (i 0).val ∧ (i 0).val < 8 ∧ 0 ≤ (i 1).val ∧ (i 1).val < 256 ∧ 0 ≤ (i 2).val ∧ (i 2).val < 1024 := by
  constructor
  · rintro ⟨t, -, hi⟩
    rw [mem_blk10] at hi
    have b0 : win0_10.index t (0 : Fin 3) * 1 ≤ (i 0).val ∧ (i 0).val < win0_10.index t (0 : Fin 3) * 1 + 1 := hi 0
    have b1 : win0_10.index t (1 : Fin 3) * 256 ≤ (i 1).val ∧ (i 1).val < win0_10.index t (1 : Fin 3) * 256 + 256 := hi 1
    have b2 : win0_10.index t (2 : Fin 3) * 1024 ≤ (i 2).val ∧ (i 2).val < win0_10.index t (2 : Fin 3) * 1024 + 1024 := hi 2
    obtain ⟨e0, e1, e2, e3⟩ := idx_facts10 t
    omega
  · intro h
    have hi0 : (i 0).val < 8 := (i 0).isLt
    have hi1 : (i 1).val < 256 := (i 1).isLt
    have hi2 : (i 2).val < 1024 := (i 2).isLt
    obtain ⟨t, hft, ht⟩ := idx_onto10 ⟨(i 0).val / 1 - 0, by omega⟩ ⟨(i 1).val / 256 - 0, by omega⟩ ⟨(i 2).val / 1024 - 0, by omega⟩
    have q0 : win0_10.index t (0 : Fin 3) = (i 0).val / 1 - 0 + 0 := congrFun ht 0
    have q1 : win0_10.index t (1 : Fin 3) = (i 1).val / 256 - 0 + 0 := congrFun ht 1
    have q2 : win0_10.index t (2 : Fin 3) = (i 2).val / 1024 - 0 + 0 := congrFun ht 2
    refine ⟨t, hft, ?_⟩
    rw [mem_blk10]
    intro a
    match a with
    | ⟨0, _⟩ => show win0_10.index t (0 : Fin 3) * 1 ≤ (i 0).val ∧ (i 0).val < win0_10.index t (0 : Fin 3) * 1 + 1; omega
    | ⟨1, _⟩ => show win0_10.index t (1 : Fin 3) * 256 ≤ (i 1).val ∧ (i 1).val < win0_10.index t (1 : Fin 3) * 256 + 256; omega
    | ⟨2, _⟩ => show win0_10.index t (2 : Fin 3) * 1024 ≤ (i 2).val ∧ (i 2).val < win0_10.index t (2 : Fin 3) * 1024 + 1024; omega

/-- THE ARRAY after the run: `G10` (the flushing blocks tile it). -/
theorem final10 (c : Dev nD) : (dats m 0 c).arrAt 10 cfg0.N = G10 m c :=
  (dats m 0 c).arrAt_eq_of_cover 10 _ (fun t hf => flushed10_eq m c t hf) (fun i => (covered_iff10 i).2 (by
    have h0 : (i 0).val < 8 := (i 0).isLt; have h1 : (i 1).val < 256 := (i 1).isLt; have h2 : (i 2).val < 1024 := (i 2).isLt; omega))

/-! ## Output window 12 -/

/-- The block of the array that holds index `i`, numbered in the order the points write the blocks back (one per point),
    `i`'s place in it, and the point that writes it back. -/
abbrev run12Of (i : S8x256x2816.Idx) : ℕ := 1 * ((i 0).val / 1 - 0) + 1 * ((i 1).val / 256 - 0) + 1 * ((i 2).val / 2816 - 0)
set_option backward.proofsInPublic true in
abbrev loc12Of (i : S8x256x2816.Idx) : S1x256x2816.Idx := fun a => match a with
  | ⟨0, _⟩ => ⟨(i 0).val % 1, Nat.mod_lt _ (by decide)⟩
  | ⟨1, _⟩ => ⟨(i 1).val % 256, Nat.mod_lt _ (by decide)⟩
  | ⟨2, _⟩ => ⟨(i 2).val % 2816, Nat.mod_lt _ (by decide)⟩
abbrev pt12Of (i : S8x256x2816.Idx) : ℕ := run12Of i

/-- The block point `t` leaves in output window 12. -/
def D12 (c : Dev nD) (t : Fin cfg0.N) : Vec F S1x256x2816 (cfg0.win 12).elt := View.canon (P12 (xblk m c t) (gblk m c t) (W1m m c) (hfull (xblk m c t) (gblk m c t) (W1m m c)))

/-- The array's contents: at index `i`, the block of the point that writes it back, at the index's place in the block. -/
def G12 (c : Dev nD) : Buf (Elt F) ((c : Thread nD τ).loc main_v1_6) := fun i =>
  if h : pt12Of i < cfg0.N then
    D12 m c ⟨pt12Of i, h⟩ (loc12Of i)
  else V m c (Pipeline.arrRef spec0 12) i

/-- The printed index map, decided over the grid: output window 12's block indices stay in the box, and the block number
    read off them is the point's (`t`). -/
theorem idx_facts12 : ∀ t : Fin cfg0.N, 0 ≤ win0_12.index t (0 : Fin 3) ∧ win0_12.index t (0 : Fin 3) ≤ 7
    ∧ 0 ≤ win0_12.index t (1 : Fin 3) ∧ win0_12.index t (1 : Fin 3) ≤ 0
    ∧ 0 ≤ win0_12.index t (2 : Fin 3) ∧ win0_12.index t (2 : Fin 3) ≤ 0
    ∧ 1 * (win0_12.index t (0 : Fin 3) - 0) + 1 * (win0_12.index t (1 : Fin 3) - 0) + 1 * (win0_12.index t (2 : Fin 3) - 0) = t.val :=
  (by decide +kernel : ∀ t : Fin grid0.N, _)

/-- Every block of the box is SOME flushing point's: `onto12Pt`, the point that writes back the block at place `q` of the box. -/
abbrev onto12Pt (q0 : Fin 8) (q1 : Fin 1) (q2 : Fin 1) : Fin grid0.N :=
  ⟨1 * q0.val + 1 * q1.val + 1 * q2.val, lt_of_lt_of_eq (by omega) N_0.symm⟩
theorem idx_onto12 : ∀ (q0 : Fin 8) (q1 : Fin 1) (q2 : Fin 1), ∃ t : Fin cfg0.N, (cfg0.win 12).flush t = true ∧ win0_12.index t = ![q0.val + 0, q1.val + 0, q2.val + 0] :=
  fun q0 q1 q2 => ⟨onto12Pt q0 q1 q2, (by decide +kernel : ∀ (q0 : Fin 8) (q1 : Fin 1) (q2 : Fin 1), win0_12.flush (onto12Pt q0 q1 q2) = true ∧ win0_12.index (onto12Pt q0 q1 q2) = ![q0.val + 0, q1.val + 0, q2.val + 0]) q0 q1 q2⟩

/-- What a point writes back is its block of the contents. -/
theorem flushed12_eq (c : Dev nD) (t : Fin cfg0.N) (hf : (cfg0.win 12).flush t = true) :
    (dats m 0 c).flushed 12 t = ((cfg0.win 12).blk t).view.read (Elt F) (G12 m c) := by
  show (cfg0.win 12).cut (grid0.coords t) ((dats m 0 c).after 12 t) = _
  rw [show (dats m 0 c).after 12 t = D12 m c t from after0_12 m c t]
  obtain ⟨e0, e1, e2, e3⟩ := idx_facts12 t
  funext y
  have hy0 : (y 0).val < 1 := (y 0).isLt
  have hy1 : (y 1).val < 256 := (y 1).isLt
  have hy2 : (y 2).val < 2816 := (y 2).isLt
  have hb0 : (((cfg0.win 12).blk t).view.emb y 0).val = win0_12.index t (0 : Fin 3) * 1 + 1 * (y 0).val := rfl
  have hb1 : (((cfg0.win 12).blk t).view.emb y 1).val = win0_12.index t (1 : Fin 3) * 256 + 1 * (y 1).val := rfl
  have hb2 : (((cfg0.win 12).blk t).view.emb y 2).val = win0_12.index t (2 : Fin 3) * 2816 + 1 * (y 2).val := rfl
  have hr : run12Of (((cfg0.win 12).blk t).view.emb y) = t.val := by
    show 1 * ((((cfg0.win 12).blk t).view.emb y 0).val / 1 - 0) + 1 * ((((cfg0.win 12).blk t).view.emb y 1).val / 256 - 0) + 1 * ((((cfg0.win 12).blk t).view.emb y 2).val / 2816 - 0) = _
    rw [hb0, hb1, hb2]
    rw [show (win0_12.index t (0 : Fin 3) * 1 + 1 * (y 0).val) / 1 = win0_12.index t (0 : Fin 3) from by omega]; rw [show (win0_12.index t (1 : Fin 3) * 256 + 1 * (y 1).val) / 256 = win0_12.index t (1 : Fin 3) from by omega]; rw [show (win0_12.index t (2 : Fin 3) * 2816 + 1 * (y 2).val) / 2816 = win0_12.index t (2 : Fin 3) from by omega]
    omega
  have hl : loc12Of (((cfg0.win 12).blk t).view.emb y) = (cfg0.win 12).xinj (grid0.coords t) y := by
    funext a; apply Fin.ext
    match a with
    | ⟨0, _⟩ => show (((cfg0.win 12).blk t).view.emb y 0).val % 1 = (y 0).val; rw [hb0]; omega
    | ⟨1, _⟩ => show (((cfg0.win 12).blk t).view.emb y 1).val % 256 = (y 1).val; rw [hb1]; omega
    | ⟨2, _⟩ => show (((cfg0.win 12).blk t).view.emb y 2).val % 2816 = (y 2).val; rw [hb2]; omega
  have hp : pt12Of (((cfg0.win 12).blk t).view.emb y) = t.val := by
    exact hr
  show D12 m c t ((cfg0.win 12).xinj (grid0.coords t) y) = G12 m c (((cfg0.win 12).blk t).view.emb y)
  unfold G12
  rw [dif_pos (by rw [hp]; exact t.isLt), hl]
  exact congrArg (fun t => D12 m c t ((cfg0.win 12).xinj (grid0.coords _) y)) (Fin.ext hp.symm)

/-- An index of the array is in point `t`'s block iff each coordinate is in the block's range on its axis. -/
theorem mem_blk12 (t : Fin cfg0.N) (i : S8x256x2816.Idx) :
    i ∈ ((cfg0.win 12).blk t).view.set ↔ ∀ a : Fin 3, win0_12.index t a * S1x256x2816.size a ≤ (i a).val ∧ (i a).val < win0_12.index t a * S1x256x2816.size a + S1x256x2816.size a := by
  show i ∈ ((View.whole main_v1_6).slice (win0_12.rect t)).set ↔ _
  rw [View.set_slice_whole, Rect.mem_set_unit]
  exact Iff.rfl

/-- THE COVERED INDICES: in some flushing point's block iff inside the box those blocks fill. -/
theorem covered_iff12 (i : S8x256x2816.Idx) :
    (∃ t : Fin cfg0.N, (cfg0.win 12).flush t = true ∧ i ∈ ((cfg0.win 12).blk t).view.set) ↔ 0 ≤ (i 0).val ∧ (i 0).val < 8 ∧ 0 ≤ (i 1).val ∧ (i 1).val < 256 ∧ 0 ≤ (i 2).val ∧ (i 2).val < 2816 := by
  constructor
  · rintro ⟨t, -, hi⟩
    rw [mem_blk12] at hi
    have b0 : win0_12.index t (0 : Fin 3) * 1 ≤ (i 0).val ∧ (i 0).val < win0_12.index t (0 : Fin 3) * 1 + 1 := hi 0
    have b1 : win0_12.index t (1 : Fin 3) * 256 ≤ (i 1).val ∧ (i 1).val < win0_12.index t (1 : Fin 3) * 256 + 256 := hi 1
    have b2 : win0_12.index t (2 : Fin 3) * 2816 ≤ (i 2).val ∧ (i 2).val < win0_12.index t (2 : Fin 3) * 2816 + 2816 := hi 2
    obtain ⟨e0, e1, e2, e3⟩ := idx_facts12 t
    omega
  · intro h
    have hi0 : (i 0).val < 8 := (i 0).isLt
    have hi1 : (i 1).val < 256 := (i 1).isLt
    have hi2 : (i 2).val < 2816 := (i 2).isLt
    obtain ⟨t, hft, ht⟩ := idx_onto12 ⟨(i 0).val / 1 - 0, by omega⟩ ⟨(i 1).val / 256 - 0, by omega⟩ ⟨(i 2).val / 2816 - 0, by omega⟩
    have q0 : win0_12.index t (0 : Fin 3) = (i 0).val / 1 - 0 + 0 := congrFun ht 0
    have q1 : win0_12.index t (1 : Fin 3) = (i 1).val / 256 - 0 + 0 := congrFun ht 1
    have q2 : win0_12.index t (2 : Fin 3) = (i 2).val / 2816 - 0 + 0 := congrFun ht 2
    refine ⟨t, hft, ?_⟩
    rw [mem_blk12]
    intro a
    match a with
    | ⟨0, _⟩ => show win0_12.index t (0 : Fin 3) * 1 ≤ (i 0).val ∧ (i 0).val < win0_12.index t (0 : Fin 3) * 1 + 1; omega
    | ⟨1, _⟩ => show win0_12.index t (1 : Fin 3) * 256 ≤ (i 1).val ∧ (i 1).val < win0_12.index t (1 : Fin 3) * 256 + 256; omega
    | ⟨2, _⟩ => show win0_12.index t (2 : Fin 3) * 2816 ≤ (i 2).val ∧ (i 2).val < win0_12.index t (2 : Fin 3) * 2816 + 2816; omega

/-- THE ARRAY after the run: `G12` (the flushing blocks tile it). -/
theorem final12 (c : Dev nD) : (dats m 0 c).arrAt 12 cfg0.N = G12 m c :=
  (dats m 0 c).arrAt_eq_of_cover 12 _ (fun t hf => flushed12_eq m c t hf) (fun i => (covered_iff12 i).2 (by
    have h0 : (i 0).val < 8 := (i 0).isLt; have h1 : (i 1).val < 256 := (i 1).isLt; have h2 : (i 2).val < 2816 := (i 2).isLt; omega))

/-! ## The rows of output window 11 -/

/-- Row `b` is what point `b` stored in it. -/
def G11 (c : Dev nD) : Buf (Elt F) ((c : Thread nD τ).loc main_v1_5) := fun i =>
  xrow m c ⟨(i 0).val, lt_of_lt_of_eq (i 0).isLt N_0.symm⟩ (fun a => match a with | ⟨0, _⟩ => ⟨0, Nat.one_pos⟩ | ⟨1, _⟩ => ⟨(i 1).val, (i 1).isLt⟩)

theorem whole11 : ∀ (t : Fin cfg0.N), win0_11.index t (0 : Fin 2) = 0 ∧ win0_11.index t (1 : Fin 2) = 0 :=
  (by decide +kernel : ∀ t : Fin grid0.N, _)

theorem rows11 (c : Dev nD) (X : Buf (Elt F) (((cfg0.win 11).arr).view.loc (c.tc : Thread nD τ))) (h : (rdat m c).ArrAt 11 cfg0.N X) : X = G11 m c := by
  have h7 : 7 < cfg0.N := lt_of_lt_of_eq (by decide) N_0.symm
  rw [show cfg0.N = 7 + 1 from N_0] at h
  have hs := (rdat m c).ArrAt_succ 11 ⟨7, h7⟩
  dsimp only at hs
  rw [hs, if_pos ((flush0_11 ⟨7, h7⟩).mpr rfl)] at h
  obtain ⟨G₀, Y, -, hL, rfl⟩ := h
  have hY : rowsOK (xrow m c) ⟨7, h7⟩ Y := (dats m 0 c).toRRel_leaves (Rl := Rl m c) (w := 11) rfl hL
  funext i
  obtain ⟨e0, e1⟩ := whole11 ⟨7, h7⟩
  have hi : ((cfg0.win 11).blk ⟨7, h7⟩).view.emb i = i := by
    funext a; apply Fin.ext
    match a with
    | ⟨0, _⟩ => show win0_11.index ⟨7, h7⟩ (0 : Fin 2) * 8 + 1 * (i 0).val = (i 0).val; rw [e0]; omega
    | ⟨1, _⟩ => show win0_11.index ⟨7, h7⟩ (1 : Fin 2) * 256 + 1 * (i 1).val = (i 1).val; rw [e1]; omega
  conv_lhs => rw [← hi]
  rw [View.write_emb_of_mem _ _ (Finset.mem_univ _)]
  exact hY _ _ _ rfl rfl (by have := (i 0).isLt; show (i 0).val ≤ 7; have h8 : (i 0).val < 8 := (i 0).isLt; omega)

/-! ## The rows of output window 13 -/

/-- Row `b` is what point `b` stored in it. -/
def G13 (c : Dev nD) : Buf (Elt F) ((c : Thread nD τ).loc main_v1_7) := fun i =>
  hrow m c ⟨(i 0).val, lt_of_lt_of_eq (i 0).isLt N_0.symm⟩ (fun a => match a with | ⟨0, _⟩ => ⟨0, Nat.one_pos⟩ | ⟨1, _⟩ => ⟨(i 1).val, (i 1).isLt⟩)

theorem whole13 : ∀ (t : Fin cfg0.N), win0_13.index t (0 : Fin 2) = 0 ∧ win0_13.index t (1 : Fin 2) = 0 :=
  (by decide +kernel : ∀ t : Fin grid0.N, _)

theorem rows13 (c : Dev nD) (X : Buf (Elt F) (((cfg0.win 13).arr).view.loc (c.tc : Thread nD τ))) (h : (rdat m c).ArrAt 13 cfg0.N X) : X = G13 m c := by
  have h7 : 7 < cfg0.N := lt_of_lt_of_eq (by decide) N_0.symm
  rw [show cfg0.N = 7 + 1 from N_0] at h
  have hs := (rdat m c).ArrAt_succ 13 ⟨7, h7⟩
  dsimp only at hs
  rw [hs, if_pos ((flush0_13 ⟨7, h7⟩).mpr rfl)] at h
  obtain ⟨G₀, Y, -, hL, rfl⟩ := h
  have hY : rowsOK (hrow m c) ⟨7, h7⟩ Y := (dats m 0 c).toRRel_leaves (Rl := Rl m c) (w := 13) rfl hL
  funext i
  obtain ⟨e0, e1⟩ := whole13 ⟨7, h7⟩
  have hi : ((cfg0.win 13).blk ⟨7, h7⟩).view.emb i = i := by
    funext a; apply Fin.ext
    match a with
    | ⟨0, _⟩ => show win0_13.index ⟨7, h7⟩ (0 : Fin 2) * 8 + 1 * (i 0).val = (i 0).val; rw [e0]; omega
    | ⟨1, _⟩ => show win0_13.index ⟨7, h7⟩ (1 : Fin 2) * 256 + 1 * (i 1).val = (i 1).val; rw [e1]; omega
  conv_lhs => rw [← hi]
  rw [View.write_emb_of_mem _ _ (Finset.mem_univ _)]
  exact hY _ _ _ rfl rfl (by have := (i 0).isLt; show (i 0).val ≤ 7; have h8 : (i 0).val < 8 := (i 0).isLt; omega)

/-! ## The run -/

/-- The kernel runs, its results holding the contents above and its arguments as launched. -/
theorem run_value : θ_run defs (onTc (τ := τ) (main (F := F))) ⟨m, fun _ => 0, ρ⟩ fun r => ∀ c : Dev nD,
      (r.2.mem ((c : Thread nD τ).loc main_v1_0) = G6 m c
      ∧ r.2.mem ((c : Thread nD τ).loc main_v1_1) = G7 m c
      ∧ r.2.mem ((c : Thread nD τ).loc main_v1_2) = G8 m c
      ∧ r.2.mem ((c : Thread nD τ).loc main_v1_3) = G9 m c
      ∧ r.2.mem ((c : Thread nD τ).loc main_v1_4) = G10 m c
      ∧ r.2.mem ((c : Thread nD τ).loc main_v1_5) = G11 m c
      ∧ r.2.mem ((c : Thread nD τ).loc main_v1_6) = G12 m c
      ∧ r.2.mem ((c : Thread nD τ).loc main_v1_7) = G13 m c) :=
  (θ_run defs _ _).mono (fun r h c => ⟨(named m r h c 6 rfl).trans (final6 m c), (named m r h c 7 rfl).trans (final7 m c),
      (named m r h c 8 rfl).trans (final8 m c), (named m r h c 9 rfl).trans (final9 m c), (named m r h c 10 rfl).trans (final10 m c),
      rows11 m c _ ((h c).1 11), (named m r h c 12 rfl).trans (final12 m c), rows13 m c _ ((h c).1 13)⟩)
    (run_main m ρ)

end Cert.KernelIdeal.Run

end
-- ==== Proof.Spec.lean ====
/- The mathematics both programs compute, row by row over extended reals, and the scalar facts that make the kernel's way of computing
it (powers of two by a search on bits, codes unpacked by bit patterns, a mean by a product, a maximum taken tile by tile) the reference's. -/
module

public import Idealize.ShloMosaic.Lib.Pointwise

@[expose] public section

noncomputable section

namespace Cert.PSpec

open Idealize.ShloMosaic

/-! ## The quantiser's power of two -/

/-- The largest magnitude of a row. -/
def rowMax {n : ℕ} (f : Fin n → EReal) : EReal :=
  Finset.fold max (Ideal.ofBits .f32 4286578688#32) (fun x => FloatOps.absf (F := Ideal) (φ := .f32) (f x)) Finset.univ

/-- A row's largest magnitude, divided by 448. -/
def amax {n : ℕ} (f : Fin n → EReal) : EReal := rowMax f * Ideal.ofBits .f32 991054117#32

/-- The exponent of a row's scale, as the reference says it. -/
def ex (t : EReal) : EReal :=
  Scalar.select (IntOp.andi (BitVec.ofBool (decide (Ideal.ofBits .f32 8388608#32 ≤ t))) (BitVec.ofBool (decide (t < Ideal.ofBits .f32 2122317824#32))))
    (Ideal.liftRound Int.floor (Ideal.div (Ideal.log t) (Ideal.log (Ideal.ofBits .f32 1073741824#32))) + 1) 0

theorem exp2_def (x : EReal) : FloatOps.exp2 (F := Ideal) (φ := .f32) x = Ideal.exp2 x := rfl

/-- The same exponent, whichever way its two comparisons are decided. -/
theorem ex_of (t : EReal) (i1 : Decidable (Ideal.ofBits .f32 8388608#32 ≤ t)) (i2 : Decidable (t < Ideal.ofBits .f32 2122317824#32)) :
    Scalar.select (IntOp.andi (BitVec.ofBool (@decide _ i1)) (BitVec.ofBool (@decide _ i2)))
      (Ideal.liftRound Int.floor (Ideal.div (Ideal.log t) (Ideal.log (Ideal.ofBits .f32 1073741824#32))) + 1) 0 = ex t := by
  unfold ex
  congr!

/-- One step of the kernel's search. -/
def bitStep (t : EReal) (bit e : BitVec 32) : BitVec 32 :=
  if Ideal.ofBits .f32 (IntOp.shli .vector (IntOp.ori e bit) 23#32) ≤ t then IntOp.ori e bit else e

/-- The exponent field the kernel's search finds. -/
def search (t : EReal) : BitVec 32 :=
  bitStep t 1#32 (bitStep t 2#32 (bitStep t 4#32 (bitStep t 8#32 (bitStep t 16#32 (bitStep t 32#32 (bitStep t 64#32 (bitStep t 128#32 0#32)))))))

def field (t : EReal) : BitVec 32 :=
  Scalar.select (BitVec.ofBool (decide (t < Ideal.ofBits .f32 2122317824#32))) (search t) 255#32

/-- The exponent the kernel reads off the field. -/
def fexp (k : BitVec 32) : BitVec 32 :=
  Scalar.select (IntOp.ori (IntOp.cmpi .eq k 0#32) (IntOp.cmpi .eq k 255#32)) 0#32 (IntOp.subi k 126#32)

/-- The kernel's scale and its inverse, by their bit patterns. -/
def fsc (k : BitVec 32) : EReal := Ideal.ofBits .f32 (IntOp.shli .vector (IntOp.addi (fexp k) 127#32) 23#32)
def finv (k : BitVec 32) : EReal := Ideal.ofBits .f32 (IntOp.shli .vector (IntOp.subi 127#32 (fexp k)) 23#32)

theorem shl23 (x : BitVec 32) : IntOp.shli .vector x 23#32 = x <<< 23 := by
  unfold IntOp.shli
  rw [if_pos (by decide)]
  rfl

theorem parts : ∀ k : Fin 256, ((BitVec.ofNat 32 k.val <<< 23).extractLsb' (8 + 23) 1 == 1#1) = false
    ∧ ((BitVec.ofNat 32 k.val <<< 23).extractLsb' 23 8).toNat = k.val ∧ ((BitVec.ofNat 32 k.val <<< 23).extractLsb' 0 23).toNat = 0 := by
  decide +kernel

theorem ofBits_f32 (b : BitVec 32) : Ideal.ofBits .f32 b = Ideal.ieee 8 23 b := rfl

theorem ieee_pow (b : BitVec 32) (k : ℕ) (p1 : (b.extractLsb' (8 + 23) 1 == 1#1) = false) (p2 : (b.extractLsb' 23 8).toNat = k)
    (p3 : (b.extractLsb' 0 23).toNat = 0) (h1 : 1 ≤ k) (h2 : k ≤ 254) : Ideal.ieee 8 23 b = (((2 : ℝ) ^ ((k : ℤ) - 127) : ℝ) : EReal) := by
  unfold Ideal.ieee
  simp only [p1, p2, p3]
  rw [if_neg (by omega), if_neg (by omega), if_neg (by decide)]
  have e : ((k : ℤ) - (2 ^ (8 - 1) - 1) - (23 : ℕ)) = ((k : ℤ) - 127) + (-23 : ℤ) := by push_cast; ring
  rw [e, zpow_add₀ (by norm_num : (2 : ℝ) ≠ 0)]
  generalize (2 : ℝ) ^ ((k : ℤ) - 127) = y
  congr 1
  push_cast
  norm_num
  rw [mul_comm, mul_assoc]
  norm_num

theorem ieee_top (b : BitVec 32) (p1 : (b.extractLsb' (8 + 23) 1 == 1#1) = false) (p2 : (b.extractLsb' 23 8).toNat = 255)
    (p3 : (b.extractLsb' 0 23).toNat = 0) : Ideal.ieee 8 23 b = ⊤ := by
  unfold Ideal.ieee
  simp only [p1, p2, p3]
  rw [if_pos (by decide), if_pos trivial, if_neg (by decide)]

/-- The pattern with exponent field `k` and no fraction is `2 ^ (k - 127)`. -/
theorem pow_val (k : ℕ) (h1 : 1 ≤ k) (h2 : k ≤ 254) :
    Ideal.ofBits .f32 (BitVec.ofNat 32 k <<< 23) = (((2 : ℝ) ^ ((k : ℤ) - 127) : ℝ) : EReal) := by
  obtain ⟨p1, p2, p3⟩ := parts ⟨k, by omega⟩
  rw [ofBits_f32]
  exact ieee_pow _ k p1 p2 p3 h1 h2

theorem pow_top : Ideal.ofBits .f32 (BitVec.ofNat 32 255 <<< 23) = (⊤ : EReal) := by
  obtain ⟨p1, p2, p3⟩ := parts ⟨255, by omega⟩
  rw [ofBits_f32]
  exact ieee_top _ p1 p2 p3

/-! The search over a threshold on natural numbers. -/

def natStep (K : ℕ) (bit e : BitVec 32) : BitVec 32 := if (e ||| bit).toNat ≤ K then e ||| bit else e

theorem nat_search : ∀ K : Fin 256, natStep K 1#32 (natStep K 2#32 (natStep K 4#32 (natStep K 8#32 (natStep K 16#32 (natStep K 32#32
    (natStep K 64#32 (natStep K 128#32 0#32))))))) = BitVec.ofNat 32 K.val := by
  decide +kernel

theorem or_lt (e bit : BitVec 32) (he : e.toNat < 256) (hb : bit.toNat < 256) : (e ||| bit).toNat < 256 := by
  rw [BitVec.toNat_or]
  exact Nat.or_lt_two_pow (n := 8) he hb

theorem natStep_lt (K : ℕ) (bit e : BitVec 32) (he : e.toNat < 256) (hb : bit.toNat < 256) : (natStep K bit e).toNat < 256 := by
  unfold natStep
  split
  · exact or_lt e bit he hb
  · exact he

theorem step_eq (t : EReal) (K : ℕ) (h : ∀ k, 1 ≤ k → k ≤ 255 → (Ideal.ofBits .f32 (BitVec.ofNat 32 k <<< 23) ≤ t ↔ k ≤ K))
    (bit e : BitVec 32) (he : e.toNat < 256) (hb : bit.toNat < 256) (h0 : 1 ≤ bit.toNat) : bitStep t bit e = natStep K bit e := by
  unfold bitStep natStep
  rw [shl23]
  have hlt := or_lt e bit he hb
  have hge : 1 ≤ (e ||| bit).toNat := by rw [BitVec.toNat_or]; exact le_trans h0 Nat.right_le_or
  have hk := h (e ||| bit).toNat hge (by omega)
  rw [BitVec.ofNat_toNat, BitVec.setWidth_eq] at hk
  exact if_congr hk rfl rfl

theorem search_eq (t : EReal) (K : ℕ) (hK : K ≤ 255) (h : ∀ k, 1 ≤ k → k ≤ 255 → (Ideal.ofBits .f32 (BitVec.ofNat 32 k <<< 23) ≤ t ↔ k ≤ K)) :
    search t = BitVec.ofNat 32 K := by
  have s := step_eq t K h
  have l := natStep_lt K
  have l0 : (0#32 : BitVec 32).toNat < 256 := by decide
  have l1 := l 128#32 _ l0 (by decide)
  have l2 := l 64#32 _ l1 (by decide)
  have l3 := l 32#32 _ l2 (by decide)
  have l4 := l 16#32 _ l3 (by decide)
  have l5 := l 8#32 _ l4 (by decide)
  have l6 := l 4#32 _ l5 (by decide)
  have l7 := l 2#32 _ l6 (by decide)
  unfold search
  rw [s 128#32 _ l0 (by decide) (by decide), s 64#32 _ l1 (by decide) (by decide), s 32#32 _ l2 (by decide) (by decide),
    s 16#32 _ l3 (by decide) (by decide), s 8#32 _ l4 (by decide) (by decide), s 4#32 _ l5 (by decide) (by decide),
    s 2#32 _ l6 (by decide) (by decide), s 1#32 _ l7 (by decide) (by decide)]
  exact nat_search ⟨K, by omega⟩

theorem fexp_mid : ∀ K : Fin 253, 1 ≤ K.val → IntOp.addi (fexp (BitVec.ofNat 32 K.val)) 127#32 = BitVec.ofNat 32 (K.val + 1)
    ∧ IntOp.subi 127#32 (fexp (BitVec.ofNat 32 K.val)) = BitVec.ofNat 32 (253 - K.val) := by
  decide +kernel

theorem fsc_unit (k : BitVec 32) (h : fexp k = 0#32) : fsc k = Ideal.exp2 0 ∧ finv k = Ideal.exp2 (0 - 0) := by
  have e1 : (Ideal.exp2 0 : EReal) = ((1 : ℝ) : EReal) := by
    rw [← EReal.coe_zero]; show ((Real.rpow 2 0 : ℝ) : EReal) = _; congr 1; exact Real.rpow_zero 2
  have e2 : Ideal.ofBits .f32 (BitVec.ofNat 32 127 <<< 23) = ((1 : ℝ) : EReal) := by
    rw [pow_val 127 (by decide) (by decide)]; norm_num
  refine ⟨?_, ?_⟩
  · unfold fsc; rw [h, e1, shl23]; exact e2
  · unfold finv; rw [h, sub_zero, e1, shl23]; exact e2

theorem lit_lo : Ideal.ofBits .f32 8388608#32 = (((2 : ℝ) ^ (-126 : ℤ) : ℝ) : EReal) :=
  (pow_val 1 (by decide) (by decide)).trans (by norm_num)
theorem lit_hi : Ideal.ofBits .f32 2122317824#32 = (((2 : ℝ) ^ (126 : ℤ) : ℝ) : EReal) :=
  (pow_val 253 (by decide) (by decide)).trans (by norm_num)
theorem lit_two : Ideal.ofBits .f32 1073741824#32 = ((2 : ℝ) : EReal) :=
  (pow_val 128 (by decide) (by decide)).trans (by norm_num)

theorem pow_le_iff (r : ℝ) (hr : 0 < r) (z : ℤ) : (2 : ℝ) ^ z ≤ r ↔ z ≤ ⌊Real.log r / Real.log 2⌋ := by
  rw [Int.le_floor, le_div_iff₀ (Real.log_pos (by norm_num)), ← Real.log_zpow, Real.log_le_log_iff (by positivity) hr]

/-- The kernel's scale and its inverse are the powers of two the reference says. -/
theorem scale_eq (t : EReal) (ht : 0 ≤ t) : fsc (field t) = Ideal.exp2 (ex t) ∧ finv (field t) = Ideal.exp2 (0 - ex t) := by
  by_cases hhi : t < Ideal.ofBits .f32 2122317824#32
  swap
  · have e1 : field t = 255#32 := by unfold field; rw [decide_eq_false hhi]; rfl
    have e2 : ex t = 0 := by
      unfold ex; rw [decide_eq_false hhi]
      unfold Scalar.select; rw [if_neg]
      generalize BitVec.ofBool _ = x; revert x; decide
    rw [e1, e2]; exact fsc_unit _ (by decide)
  have e1 : field t = search t := by unfold field; rw [decide_eq_true hhi]; rfl
  induction t with
  | bot => exact absurd ht (by simp)
  | top => exact absurd hhi (by simp)
  | coe r =>
  by_cases hlo : Ideal.ofBits .f32 8388608#32 ≤ (r : EReal)
  swap
  · have e2 : ex (r : EReal) = 0 := by
      unfold ex; rw [decide_eq_false hlo]
      unfold Scalar.select; rw [if_neg]
      rw [decide_eq_true hhi]; decide
    have e3 : search (r : EReal) = BitVec.ofNat 32 0 := by
      refine search_eq _ 0 (by decide) fun k h1 h2 => ⟨fun h => ?_, fun h => absurd h (by omega)⟩
      refine absurd (le_trans ?_ h) hlo
      rcases Nat.lt_or_ge k 255 with hk | hk
      · rw [pow_val k h1 (by omega), lit_lo, EReal.coe_le_coe_iff]
        exact zpow_le_zpow_right₀ (by norm_num) (by omega)
      · rw [show k = 255 by omega, pow_top]; exact le_top
    rw [e1, e2, e3]; exact fsc_unit _ (by decide)
  have hlo' := hlo
  have hhi' := hhi
  rw [lit_lo, EReal.coe_le_coe_iff] at hlo'
  rw [lit_hi, EReal.coe_lt_coe_iff] at hhi'
  have hr : 0 < r := lt_of_lt_of_le (by positivity) hlo'
  have f1 : (-126 : ℤ) ≤ ⌊Real.log r / Real.log 2⌋ := (pow_le_iff r hr _).mp hlo'
  have f2 : ⌊Real.log r / Real.log 2⌋ < 126 := by
    by_contra hc
    exact absurd ((pow_le_iff r hr 126).mpr (by omega)) (not_le.mpr hhi')
  have e2 : ex (r : EReal) = (((⌊Real.log r / Real.log 2⌋ + 1 : ℤ) : ℝ) : EReal) := by
    unfold ex
    rw [decide_eq_true hlo, decide_eq_true hhi]
    show Ideal.liftRound Int.floor _ + 1 = _
    rw [lit_two]
    show Ideal.liftRound Int.floor (Ideal.div (if r ≤ 0 then ⊥ else ((Real.log r : ℝ) : EReal)) (if (2 : ℝ) ≤ 0 then ⊥ else ((Real.log 2 : ℝ) : EReal))) + 1 = _
    have hl : Real.log 2 ≠ 0 := (Real.log_pos (by norm_num)).ne'
    rw [if_neg (not_le.mpr hr), if_neg (by norm_num), Ideal.div_coe hl, ← EReal.coe_mul, mul_one_div]
    show ((((⌊Real.log r / Real.log 2⌋ : ℤ) : ℝ) : EReal)) + 1 = _
    rw [← EReal.coe_one, ← EReal.coe_add]
    push_cast
    rfl
  have hz : ∀ z' : ℤ, ((2 : ℝ) ^ z' ≤ r ↔ z' ≤ ⌊Real.log r / Real.log 2⌋) := pow_le_iff r hr
  generalize ⌊Real.log r / Real.log 2⌋ = z at f1 f2 e2 hz
  obtain ⟨K, hK⟩ : ∃ K : ℕ, z = (K : ℤ) - 127 := ⟨(z + 127).toNat, by omega⟩
  subst hK
  have e3 : search (r : EReal) = BitVec.ofNat 32 K := by
    refine search_eq _ K (by omega) fun k h1 h2 => ?_
    rcases Nat.lt_or_ge k 255 with hk | hk
    · rw [pow_val k h1 (by omega), EReal.coe_le_coe_iff, hz]; omega
    · rw [show k = 255 by omega, pow_top]
      exact ⟨fun h => absurd (top_le_iff.mp h) (EReal.coe_ne_top r), fun h => absurd h (by omega)⟩
  obtain ⟨m1, m2⟩ := fexp_mid ⟨K, by omega⟩ (by show 1 ≤ K; omega)
  rw [e1, e2, e3]
  refine ⟨?_, ?_⟩
  · unfold fsc
    rw [m1, shl23, pow_val _ (by omega) (by show K + 1 ≤ 254; omega)]
    show _ = ((Real.rpow 2 _ : ℝ) : EReal)
    congr 1
    refine Eq.trans ?_ (Real.rpow_intCast 2 _).symm
    congr 1; push_cast; ring
  · unfold finv
    rw [m2, shl23, pow_val _ (by show 1 ≤ 253 - K; omega) (by show 253 - K ≤ 254; omega), zero_sub, ← EReal.coe_neg]
    show _ = ((Real.rpow 2 _ : ℝ) : EReal)
    congr 1
    rw [← Int.cast_neg]
    refine Eq.trans ?_ (Real.rpow_intCast 2 _).symm
    congr 1
    show ((253 - K : ℕ) : ℤ) - 127 = _
    omega

/-! ## The mean -/

theorem mean_eq (s : EReal) : s * Ideal.ofBits .f32 981467136#32 = Ideal.div s (Ideal.ofBits .f32 1149239296#32) := by
  have e1 : Ideal.ofBits .f32 981467136#32 = (((2 : ℝ) ^ (-10 : ℤ) : ℝ) : EReal) := (pow_val 117 (by decide) (by decide)).trans (by norm_num)
  have e2 : Ideal.ofBits .f32 1149239296#32 = (((2 : ℝ) ^ (10 : ℤ) : ℝ) : EReal) := (pow_val 137 (by decide) (by decide)).trans (by norm_num)
  rw [e1, e2, Ideal.div_coe (by positivity)]
  congr 2
  norm_num

/-! ## Magnitudes -/

theorem abs_nonneg (x : EReal) : 0 ≤ FloatOps.absf (F := Ideal) (φ := .f32) x := by
  show 0 ≤ max x (-x)
  rcases le_total 0 x with h | h
  · exact le_max_of_le_left h
  · exact le_max_of_le_right (EReal.neg_nonneg.mpr h)

theorem lit_bot : Ideal.ofBits .f32 4286578688#32 = (⊥ : EReal) := by
  rw [ofBits_f32]; unfold Ideal.ieee
  rw [if_pos (by decide), if_pos (by decide), if_pos (by decide)]

theorem rowMax_le {n : ℕ} (f : Fin n → EReal) (c : EReal) : rowMax f ≤ c ↔ ∀ x, FloatOps.absf (F := Ideal) (φ := .f32) (f x) ≤ c := by
  unfold rowMax
  rw [Finset.fold_max_le, lit_bot]
  exact ⟨fun h x => h.2 x (Finset.mem_univ x), fun h => ⟨bot_le, fun x _ => h x⟩⟩

theorem le_rowMax {n : ℕ} (f : Fin n → EReal) (x : Fin n) : FloatOps.absf (F := Ideal) (φ := .f32) (f x) ≤ rowMax f :=
  (rowMax_le f _).mp le_rfl x

theorem amax_nonneg {n : ℕ} (f : Fin (n + 1) → EReal) : 0 ≤ amax f := by
  refine mul_nonneg ((abs_nonneg (f 0)).trans (le_rowMax f 0)) ?_
  rw [ofBits_f32]; unfold Ideal.ieee
  rw [if_neg (by decide), if_neg (by decide), if_neg (by decide)]
  rw [← EReal.coe_zero, EReal.coe_le_coe_iff]
  positivity

/-- A row's maximum taken over eleven tiles of 256, from zero. -/
theorem tiles_max (f : Fin 2816 → EReal) (M : ℕ → EReal) (h0 : M 0 = 0)
    (hs : ∀ k : Fin 11, M (k.val + 1) = max (M k.val) (rowMax fun x : Fin 256 => f ⟨256 * k.val + x.val, by omega⟩)) : M 11 = rowMax f := by
  have key : ∀ k, k ≤ 11 → ∀ c, M k ≤ c ↔ 0 ≤ c ∧ ∀ x : Fin 2816, x.val < 256 * k → FloatOps.absf (F := Ideal) (φ := .f32) (f x) ≤ c := by
    intro k
    induction k with
    | zero => intro _ c; rw [h0]; exact ⟨fun h => ⟨h, fun x hx => absurd hx (by omega)⟩, fun h => h.1⟩
    | succ k ih =>
      intro hk c
      rw [hs ⟨k, hk⟩, max_le_iff, ih (by omega), rowMax_le]
      constructor
      · rintro ⟨⟨h, h1⟩, h2⟩
        refine ⟨h, fun x hx => ?_⟩
        by_cases hx' : x.val < 256 * k
        · exact h1 x hx'
        · have := h2 ⟨x.val - 256 * k, by omega⟩
          rwa [show (⟨256 * k + (x.val - 256 * k), by omega⟩ : Fin 2816) = x from Fin.ext (by show 256 * k + (x.val - 256 * k) = x.val; omega)] at this
      · rintro ⟨h, h1⟩
        exact ⟨⟨h, fun x hx => h1 x (by omega)⟩, fun x => h1 _ (by show 256 * k + x.val < _; omega)⟩
  refine le_antisymm ((key 11 le_rfl _).mpr ⟨(abs_nonneg (f 0)).trans (le_rowMax f 0), fun x _ => le_rowMax f x⟩) ?_
  rw [rowMax_le]
  exact fun x => ((key 11 le_rfl _).mp le_rfl).2 x (by omega)

/-! ## Packed codes -/

/-- The word the kernel takes a byte to: two halves, each a bfloat16 pattern of a code. -/
def word (b : BitVec 8) : BitVec 32 :=
  IntOp.xori (IntOp.andi (IntOp.ori (b.zeroExtend 32) (IntOp.shli .vector (b.zeroExtend 32) 12#32)) 983055#32) 1124614920#32

/-- A signed four-bit code, as the reference reads it. -/
def sgn4 (v : BitVec 32) : BitVec 32 := Scalar.select (IntOp.cmpi .sge v 8#32) (IntOp.subi v 16#32) v
/-- The low (`p = 0`) and the high (`p = 1`) code of a byte. -/
def nib (b : BitVec 8) (p : ℕ) : BitVec 32 :=
  if p < 1 then sgn4 (IntOp.andi (b.zeroExtend 32) 15#32) else sgn4 (IntOp.shrsi .scalar (b.zeroExtend 32) 4#32)
/-- The weight's value. -/
def wnib (b : BitVec 8) (p : ℕ) : EReal := FloatOps.sitofp (F := Ideal) .bf16 (nib b p)

theorem bf_parts : ∀ q : Fin 16, ((BitVec.ofNat 16 (17152 + q.val)).extractLsb' (8 + 7) 1 == 1#1) = false
    ∧ ((BitVec.ofNat 16 (17152 + q.val)).extractLsb' 7 8).toNat = 134 ∧ ((BitVec.ofNat 16 (17152 + q.val)).extractLsb' 0 7).toNat = q.val := by
  decide +kernel

theorem bf_val (q : ℕ) (h : q < 16) : Ideal.ofBits .bf16 (BitVec.ofNat 16 (17152 + q)) = ((128 + q : ℝ) : EReal) := by
  obtain ⟨p1, p2, p3⟩ := bf_parts ⟨q, h⟩
  show Ideal.ieee 8 7 _ = _
  unfold Ideal.ieee
  simp only [p1, p2, p3]
  rw [if_neg (by decide), if_neg (by decide), if_neg (by decide)]
  congr 1
  push_cast
  norm_num

theorem nib_facts : ∀ b : Fin 256, ∀ p : Fin 2, ∃ q : Fin 16, (word (BitVec.ofNat 8 b.val)).extractLsb' (16 * p.val) 16 = BitVec.ofNat 16 (17152 + q.val)
    ∧ (nib (BitVec.ofNat 8 b.val) p.val).toInt = (q.val : ℤ) - 8 := by
  decide +kernel

/-- The kernel's unpacking gives the reference's code. -/
theorem nib_eq (b : BitVec 8) (p : ℕ) (hp : p < 2) :
    Ideal.ofBits .bf16 ((word b).extractLsb' (16 * p) 16) - Ideal.ofBits .bf16 17160#16 = wnib b p := by
  obtain ⟨q, h1, h2⟩ := nib_facts ⟨b.toNat, b.isLt⟩ ⟨p, hp⟩
  dsimp only at h1 h2
  rw [BitVec.ofNat_toNat, BitVec.setWidth_eq] at h1 h2
  rw [h1, bf_val _ q.isLt]
  have e : Ideal.ofBits .bf16 17160#16 = ((128 + (8 : ℕ) : ℝ) : EReal) := bf_val 8 (by decide)
  rw [e]
  show _ = (((nib b p).toInt : ℝ) : EReal)
  rw [h2, ← EReal.coe_sub]
  congr 1
  push_cast
  ring

/-! ## The layer, one row of one batch at a time -/

/-- The normalised row. -/
def xn (x : Fin 1024 → EReal) (g : Fin 1024 → EReal) (j : Fin 1024) : EReal :=
  x j * Ideal.rsqrt (Ideal.div (∑ k, x k * x k) (Ideal.ofBits .f32 1149239296#32) + Ideal.ofBits .f32 897988541#32) * g j
/-- A row's scale and its codes. -/
def scl {n : ℕ} (f : Fin n → EReal) : EReal := Ideal.exp2 (ex (amax f))
def code {n : ℕ} (f : Fin n → EReal) (j : Fin n) : EReal :=
  min (Ideal.ofBits .f32 1138753536#32) (max (Ideal.ofBits .f32 3286237184#32) (f j * Ideal.exp2 (0 - ex (amax f))))
/-- A quantised row times a column of weights. -/
def prod {n : ℕ} (f : Fin n → EReal) (w : Fin n → EReal) : EReal := (∑ k, code f k * w k) * scl f
/-- The hidden row. -/
def hid (f : Fin 1024 → EReal) (w : Fin 1024 → Fin 6912 → EReal) (n : Fin 2816) : EReal :=
  prod f (fun k => w k ⟨1280 + n.val, by omega⟩) * Ideal.logistic (prod f (fun k => w k ⟨1280 + n.val, by omega⟩)) * prod f (fun k => w k ⟨4096 + n.val, by omega⟩)

end Cert.PSpec

end
-- ==== Proof.KSpec.lean ====
/- The kernel's vector expressions at extended reals, read element by element: each operation over variables, to be put together. -/
module

public import proofs.«01_k».proof.Proof.KPieces
public import proofs.«01_k».proof.Proof.Spec
public import Idealize.ShloMosaic.Lib.Pointwise
public import Idealize.ShloMosaic.Lib.BitcastPair

@[expose] public section

set_option maxRecDepth 16384

noncomputable section

namespace Cert.KernelIdeal.Run

open Cert.KernelIdeal Cert.KernelIdeal.Gen
open Idealize.ShloMosaic Idealize.ShloMosaic.TcCoe
open Cert.PSpec

variable (i j : Fin 256)

/-! ## The normalised block and its largest magnitudes -/

theorem pay307_at (v3 : Vec Ideal S1x256x1024 .bf16) (v16 : Vec Ideal S1x1024 .f32) (n : Fin 1024) :
    k0_pay307 v3 v16 (ix2 i n) = xn (fun k => v3 (ix3 0 i k)) (fun k => v16 (ix2 0 k)) n := by
  pointwise [k0_pay307, xn]
  rw [mean_eq]

theorem over_at (u : FVec Ideal S256 .f32) :
    mulf (shapeCast S256x1 u shapeCasts_S256_S256x1) (broadcast S256x1 (Scalar.ofBits .f32 0x3B124925#32)) (ix2 i 0)
      = u (ix1 i) * Ideal.ofBits .f32 991054117#32 := by
  pointwise

theorem maxX_at (v : FVec Ideal S256x1024 .f32) (f : Fin 1024 → EReal) (h : ∀ n, v (ix2 i n) = f n) :
    multiReduction .maximumf [1] S256 (absf v) 0xFF800000#32 reduces_S256x1024_S256 (.inl rfl) rfl (ix1 i) = rowMax f := by
  pointwise
  unfold rowMax
  simp only [h]

theorem pay308_eq (v3 : Vec Ideal S1x256x1024 .bf16) (v16 : Vec Ideal S1x1024 .f32) :
    k0_pay308 v3 v16 = mulf (shapeCast S256x1 (multiReduction .maximumf [1] S256 (absf (k0_pay307 v3 v16)) 0xFF800000#32 reduces_S256x1024_S256 (.inl rfl) rfl)
      shapeCasts_S256_S256x1) (broadcast S256x1 (Scalar.ofBits .f32 0x3B124925#32)) := rfl

theorem pay308_at (v3 : Vec Ideal S1x256x1024 .bf16) (v16 : Vec Ideal S1x1024 .f32) :
    k0_pay308 v3 v16 (ix2 i 0) = amax (xn (fun k => v3 (ix3 0 i k)) (fun k => v16 (ix2 0 k))) := by
  rw [pay308_eq, over_at, maxX_at i _ _ (pay307_at i v3 v16)]
  rfl

theorem step_max (u : FVec Ideal S256 .f32) (m : FVec Ideal S256x1 .f32) :
    maximumf m (shapeCast S256x1 u shapeCasts_S256_S256x1) (ix2 i 0) = max (m (ix2 i 0)) (u (ix1 i)) := by
  pointwise

theorem maxT_at (v : FVec Ideal S256x256 .f32) (f : Fin 256 → EReal) (h : ∀ n, v (ix2 i n) = f n) :
    multiReduction .maximumf [1] S256 (absf v) 0xFF800000#32 reduces_S256x256_S256_2 (.inl rfl) rfl (ix1 i) = rowMax f := by
  pointwise
  unfold rowMax
  simp only [h]

theorem amaxStep_at (m : FVec Ideal S256x1 .f32) (v : FVec Ideal S256x256 .f32) (f : Fin 256 → EReal) (h : ∀ n, v (ix2 i n) = f n) :
    amaxStep m v (ix2 i 0) = max (m (ix2 i 0)) (rowMax f) := by
  unfold amaxStep
  rw [step_max, maxT_at i v f h]

theorem pay358_at (u : FVec Ideal S256x1 .f32) : k0_pay358 u (ix2 i 0) = u (ix2 i 0) * Ideal.ofBits .f32 991054117#32 := by
  pointwise [k0_pay358]

/-! ## The exponent search, scales and codes -/

theorem estep_at (t : FVec Ideal S256x1 .f32) (bit : BitVec 32) (e : IVec S256x1 32) :
    estep t bit e (ix2 i 0) = bitStep (t (ix2 i 0)) bit (e (ix2 i 0)) := by
  pointwise [estep]
  unfold bitStep
  congr!

theorem field_at (t : FVec Ideal S256x1 .f32) (e : IVec S256x1 32) :
    select (cmpf .olt t (broadcast S256x1 (Scalar.ofBits (F := Ideal) .f32 0x7E800000#32))) e (broadcast S256x1 255#32) (ix2 i 0)
      = Scalar.select (BitVec.ofBool (decide (t (ix2 i 0) < Ideal.ofBits .f32 2122317824#32))) (e (ix2 i 0)) 255#32 := by
  pointwise

theorem expo_at (t : FVec Ideal S256x1 .f32) : expo t (ix2 i 0) = field (t (ix2 i 0)) := by
  unfold expo
  rw [field_at]
  simp only [estep_at]
  rfl

theorem pay362_at (e : IVec S256x1 32) : k0_pay362 (F := Ideal) e (ix2 i 0) = fsc (e (ix2 i 0)) := by
  pointwise [k0_pay362, k0_pay361]
  rfl

theorem pay313_at (v : FVec Ideal S256x1024 .f32) (e : IVec S256x1 32) (n : Fin 1024) : k0_pay313 v e 0#32 (ix2 i n)
    = min (Ideal.ofBits .f32 1138753536#32) (max (Ideal.ofBits .f32 3286237184#32) (v (ix2 i n) * finv (e (ix2 i 0)))) := by
  pointwise [k0_pay313, k0_pay311]
  rfl

theorem pay364_at (v : FVec Ideal S256x2816 .f32) (e : IVec S256x1 32) (n : Fin 2816) : (k0_pay364 (F := Ideal) e v (ix2 i n) : EReal)
    = min (Ideal.ofBits .f32 1138753536#32) (max (Ideal.ofBits .f32 3286237184#32) (v (ix2 i n) * finv (e (ix2 i 0)))) := by
  pointwise [k0_pay364, k0_pay361]
  rfl

/-- The column of scales, laid out as a row through a diagonal. -/
theorem pay363_at (e : IVec S256x1 32) : k0_pay363 (F := Ideal) e (ix2 0 i) = fsc (e (ix2 i 0)) := by
  pointwise [k0_pay363]
  rw [Finset.sum_eq_single i]
  · rw [pay362_at]
    unfold Scalar.select IntOp.cmpi
    simp
  · intro x _ hx
    have hne : BitVec.ofNat 32 x.val ≠ BitVec.ofNat 32 i.val := by
      intro h
      have h' := congrArg BitVec.toNat h
      rw [BitVec.toNat_ofNat, BitVec.toNat_ofNat] at h'
      exact hx (Fin.ext (by omega))
    unfold Scalar.select IntOp.cmpi
    rw [if_neg]
    show ¬ BitVec.ofBool (BitVec.ofNat 32 x.val == BitVec.ofNat 32 i.val) = 1#1
    rw [beq_eq_false_iff_ne.mpr hne]
    decide
  · intro h; exact absurd (Finset.mem_univ i) h

/-! ## Products -/

theorem tile_at (xs : FVec Ideal S256x1 .f32) (a : FVec Ideal S256x1024 .bf16) (w : Vec Ideal S1024x256 .bf16) :
    tile xs a w (ix2 i j) = (∑ k, a (ix2 i k) * w (ix2 k j)) * xs (ix2 i 0) := by
  pointwise [tile]

theorem gated_at (g u : FVec Ideal S256x256 .f32) : gated g u (ix2 i j) = g (ix2 i j) * Ideal.logistic (g (ix2 i j)) * u (ix2 i j) := by
  pointwise [gated]

theorem pay367_at (s : FVec Ideal S256x1 .f32) (a : FVec Ideal S256x2816 .fp8e4m3) (w : Vec Ideal S2816x256 .bf16) (x : Vec Ideal S1x256x256 .bf16) :
    k0_pay367 s a w x (ix3 0 i j) = x (ix3 0 i j) + (∑ k, a (ix2 i k) * w (ix2 k j)) * s (ix2 i 0) := by
  pointwise [k0_pay367, k0_pay366]

/-! ## The weights -/

theorem words_at (v : Vec Ideal S64x256 .i8) (r : Fin 64) : (xori (andi (ori (extui 32 v natLt_8_32) (shli (extui 32 v natLt_8_32) (broadcast S64x256 12#32)))
    (broadcast S64x256 983055#32)) (broadcast S64x256 1124614920#32)) (ix2 r j) = word (v (ix2 r j)) := by
  pointwise
  rfl

theorem half_at (v : IVec S64x256 32) (r : Fin 128) :
    bitcast S128x256 16 v bitcasts_S64x256_w32_S128x256_w16 (ix2 r j) = (v (ix2 ⟨r.val / 2, by omega⟩ j)).extractLsb' (16 * (r.val % 2)) 16 := by
  rw [bitcast_32_16]
  congr 2
  funext a
  fin_cases a
  · rfl
  · rfl

theorem deq_at (v : IVec S128x256 16) (s : Vec Ideal S1x256 .f32) (r : Fin 128) :
    shapeCast S128x256 (mulf (subf (bitcastToFloat .bf16 v) (broadcast S128x256 (Scalar.ofBits (F := Ideal) .bf16 0x4308#16)))
      (broadcastTo S128x256 (truncf .bf16 s bitsLt_bf16_f32) broadcasts_S1x256_S128x256)) shapeCasts_S128x256_S128x256 (ix2 r j)
    = (Ideal.ofBits .bf16 (v (ix2 r j)) - Ideal.ofBits .bf16 17160#16) * s (ix2 0 j) := by
  pointwise

theorem pay3_eq (v : Vec Ideal S64x256 .i8) (s : Vec Ideal S1x256 .f32) : k0_pay3 v s
    = shapeCast S128x256 (mulf (subf (bitcastToFloat .bf16 (bitcast S128x256 16 (xori (andi (ori (extui 32 v natLt_8_32) (shli (extui 32 v natLt_8_32)
        (broadcast S64x256 12#32))) (broadcast S64x256 983055#32)) (broadcast S64x256 1124614920#32)) bitcasts_S64x256_w32_S128x256_w16))
        (broadcast S128x256 (Scalar.ofBits (F := Ideal) .bf16 0x4308#16)))
      (broadcastTo S128x256 (truncf .bf16 s bitsLt_bf16_f32) broadcasts_S1x256_S128x256)) shapeCasts_S128x256_S128x256 := rfl

theorem pay3_at (v : Vec Ideal S64x256 .i8) (s : Vec Ideal S1x256 .f32) (r : Fin 128) :
    k0_pay3 v s (ix2 r j) = wnib (v (ix2 ⟨r.val / 2, by omega⟩ j)) (r.val % 2) * s (ix2 0 j) := by
  rw [pay3_eq, deq_at, half_at, words_at, nib_eq _ _ (by omega)]

end Cert.KernelIdeal.Run

end
-- ==== Proof.KBlock.lean ====
/- What the kernel leaves in its blocks, at extended reals, element by element, as the mathematics of the layer. -/
module

public import proofs.«01_k».proof.Proof.KFrame
public import proofs.«01_k».proof.Proof.KSpec

@[expose] public section

set_option maxRecDepth 16384

noncomputable section

namespace Cert.KernelIdeal.Run

open Cert.KernelIdeal Cert.KernelIdeal.Gen
open Idealize.ShloMosaic Idealize.ShloMosaic.TcCoe
open Cert.PSpec

theorem z2 : (![0, 0] : Fin 2 → ℕ) = fun _ => 0 := by decide
theorem z3 : (![0, 0, 0] : Fin 3 → ℕ) = fun _ => 0 := by decide

variable (xb : Vec Ideal S1x256x1024 .bf16) (g : Vec Ideal S1x1024 .f32) (w : Vec Ideal S1024x6912 .bf16) (wd : Vec Ideal S2816x1024 .bf16)
variable (i j : Fin 256)

/-- The normalised row, and the hidden row. -/
def fr (i : Fin 256) : Fin 1024 → EReal := xn (fun k => xb (ix3 0 i k)) (fun k => g (ix2 0 k))
def hr (i : Fin 256) : Fin 2816 → EReal := hid (fr xb g i) (fun k n => w (ix2 k n))

/-! ## The rows' scales and codes -/

theorem xnv_at (n : Fin 1024) : xnv xb g (ix2 i n) = fr xb g i n := by
  unfold xnv ldx ldg
  rw [View.ld_unit_zero z3, View.ld_unit_zero z2, pay307_at]
  rfl

theorem xe_at : xe xb g (ix2 i 0) = field (amax (fr xb g i)) := by
  unfold xe ldx ldg
  rw [View.ld_unit_zero z3, View.ld_unit_zero z2, expo_at, pay308_at]
  rfl

theorem xsc_at : xsc xb g (ix2 i 0) = scl (fr xb g i) := by
  unfold xsc scl
  rw [pay362_at, xe_at, (scale_eq _ (amax_nonneg _)).1]

theorem xcd_at (n : Fin 1024) : xcd xb g (ix2 i n) = code (fr xb g i) n := by
  unfold xcd code
  rw [pay313_at, xnv_at, xe_at, (scale_eq _ (amax_nonneg _)).2]

theorem ext_at (v : FVec Ideal S256x1024 .fp8e4m3) (n : Fin 1024) : extf .bf16 v bitsLt_fp8e4m3_bf16 (ix2 i n) = v (ix2 i n) := by
  pointwise

theorem xa_at (n : Fin 1024) : xa xb g (ix2 i n) = code (fr xb g i) n := by
  unfold xa
  rw [ext_at, xcd_at]

theorem wcol_at (n : ℕ) (h : n + 256 ≤ 6912) (k : Fin 1024) : wcol w n h (ix2 k j) = w (ix2 k ⟨n + j.val, by omega⟩) := by
  unfold wcol
  refine congrArg w (funext fun a => Fin.ext ?_)
  fin_cases a
  · show 0 + 1 * k.val = k.val; omega
  · show n + 1 * j.val = n + j.val; omega

theorem dcol_at (n : ℕ) (h : n + 256 ≤ 1024) (k : Fin 2816) : dcol wd n h (ix2 k j) = wd (ix2 k ⟨n + j.val, by omega⟩) := by
  unfold dcol
  refine congrArg wd (funext fun a => Fin.ext ?_)
  fin_cases a
  · show 0 + 1 * k.val = k.val; omega
  · show n + 1 * j.val = n + j.val; omega

/-- A column tile of the first product. -/
theorem proj_at (n : ℕ) (h : n + 256 ≤ 6912) :
    tile (xsc xb g) (xa xb g) (wcol w n h) (ix2 i j) = prod (fr xb g i) (fun k => w (ix2 k ⟨n + j.val, by omega⟩)) := by
  rw [tile_at, xsc_at]
  simp only [xa_at, wcol_at]
  rfl

theorem htile_at (k : Fin 11) : htile xb g w k (ix2 i j) = hr xb g w i ⟨256 * k.val + j.val, by omega⟩ := by
  unfold htile
  rw [gated_at, proj_at, proj_at]
  unfold hr hid
  simp only [Nat.add_assoc]

theorem hmax_at : hmaxUpTo xb g w 11 (le_refl _) (ix2 i 0) = rowMax (hr xb g w i) := by
  have e := tiles_max (hr xb g w i) (fun k => if h : k ≤ 11 then hmaxUpTo xb g w k h (ix2 i 0) else 0) ?_ ?_
  · rw [dif_pos (le_refl 11)] at e
    exact e
  · rw [dif_pos (Nat.zero_le 11)]
    show Ideal.ofBits .f32 0#32 = 0
    unfold Ideal.ofBits Ideal.ieee
    norm_num
  · intro k
    have hk := k.isLt
    rw [dif_pos (show k.val + 1 ≤ 11 by omega), dif_pos (show k.val ≤ 11 by omega), hmaxUpTo]
    exact amaxStep_at i _ _ _ fun n => htile_at xb g w i n k

theorem he_at : he xb g w (ix2 i 0) = field (amax (hr xb g w i)) := by
  unfold he amax
  rw [expo_at, pay358_at, hmax_at]

theorem hsc_at : hsc xb g w (ix2 i 0) = scl (hr xb g w i) := by
  unfold hsc scl
  rw [pay362_at, he_at, (scale_eq _ (amax_nonneg _)).1]

theorem same_at (v : FVec Ideal S256x256 .f32) : shapeCast S256x256 v shapeCasts_S256x256_S256x256 (ix2 i j) = v (ix2 i j) := by
  pointwise

/-- The hidden block, read at an index. -/
def hG (y : S256x2816.Idx) : EReal := hr xb g w (y 0) (y 1)

theorem hpc_at (k : Fin 11) (x : (hpc xb g w k).1.shape.Idx) : (hpc xb g w k).2 x = hG xb g w ((hpc xb g w k).1.emb x) := by
  have hx : x = (ix2 (x 0 : Fin 256) (x 1 : Fin 256) : S256x256.Idx) := by funext a; fin_cases a <;> rfl
  rw [hx]
  refine (same_at _ _ _).trans ((htile_at xb g w _ _ k).trans ?_)
  unfold hG
  congr 1
  · exact Fin.ext (by show (x 0).val = 0 + 1 * (x 0).val; omega)
  · exact Fin.ext (by show 256 * k.val + (x 1).val = 256 * k.val + 1 * (x 1).val; omega)

theorem hfull_at (n : Fin 2816) : hfull xb g w (ix2 i n) = hr xb g w i n := by
  unfold hfull
  rw [View.ld_unit_zero z2]
  refine View.canon_apply_of_pieces (hG xb g w) (PT2 xb g w) ?_ _ (cover_PT2 xb g w _)
  intro p hp
  unfold PT2 at hp
  simp only [List.mem_cons, List.not_mem_nil, or_false] at hp
  rcases hp with rfl | rfl | rfl | rfl | rfl | rfl | rfl | rfl | rfl | rfl | rfl <;> exact hpc_at xb g w _

theorem hcd_at (n : Fin 2816) : hcd xb g w (hfull xb g w) (ix2 i n) = code (hr xb g w i) n := by
  unfold hcd code
  rw [pay364_at, hfull_at, he_at, (scale_eq _ (amax_nonneg _)).2]

/-! ## The output blocks -/

theorem tr_at (v : FVec Ideal S256x256 .f32) :
    shapeCast S1x256x256 (transpose S256x256 [1, 0] (truncf .bf16 v bitsLt_bf16_f32) transposes_S256x256_p1_0_S256x256) shapeCasts_S256x256_S1x256x256 (ix3 0 i j)
      = v (ix2 j i) := by
  pointwise

def qG (y : S1x1024x256.Idx) : EReal := prod (fr xb g (y 2)) (fun k => w (ix2 k ⟨(y 1).val, by have : (y 1).val < 1024 := (y 1).isLt; omega⟩))

theorem qpc_at (n : ℕ) (h : n + 256 ≤ 1024) (x : (qpc xb g w n h).1.shape.Idx) : (qpc xb g w n h).2 x = qG xb g w ((qpc xb g w n h).1.emb x) := by
  have hx : x = (ix3 0 (x 1 : Fin 256) (x 2 : Fin 256) : S1x256x256.Idx) := by
    funext a; fin_cases a
    · exact Fin.ext (by have : (x 0).val < 1 := (x 0).isLt; show (x 0).val = 0; omega)
    · rfl
    · rfl
  rw [hx]
  refine (tr_at _ _ _).trans ((proj_at xb g w _ _ n _).trans ?_)
  unfold qG
  congr 1
  · exact congrArg _ (Fin.ext (by show (x 2).val = 0 + 1 * (x 2).val; omega))
  · funext k
    refine congrArg (fun n => w (ix2 k n)) (Fin.ext ?_)
    show n + (x 1).val = n + 1 * (x 1).val; omega

theorem P6_at (n : Fin 1024) : View.canon (P6 xb g w) (ix3 0 n i) = prod (fr xb g i) (fun k => w (ix2 k ⟨n.val, by omega⟩)) := by
  refine View.canon_apply_of_pieces (qG xb g w) (P6 xb g w) ?_ _ (cover_P6 xb g w _)
  intro p hp
  unfold P6 at hp
  simp only [List.mem_cons, List.not_mem_nil, or_false] at hp
  rcases hp with rfl | rfl | rfl | rfl <;> exact qpc_at xb g w _ _

theorem lo_at (v : FVec Ideal S256x256 .f32) (n : Fin 128) :
    shapeCast S1x128x256 (extractStridedSlice S128x256 ![0, 0] (transpose S256x256 [1, 0] (truncf .bf16 v bitsLt_bf16_f32) transposes_S256x256_p1_0_S256x256)
      slices_S256x256_o0_0_S128x256) shapeCasts_S128x256_S1x128x256 (ix3 0 n i) = v (ix2 i ⟨n.val, by omega⟩) := by
  pointwise

theorem hi_at (v : FVec Ideal S256x256 .f32) (n : Fin 128) :
    shapeCast S1x128x256 (extractStridedSlice S128x256 ![128, 0] (transpose S256x256 [1, 0] (truncf .bf16 v bitsLt_bf16_f32) transposes_S256x256_p1_0_S256x256)
      slices_S256x256_o128_0_S128x256) shapeCasts_S128x256_S1x128x256 (ix3 0 n i) = v (ix2 i ⟨128 + n.val, by omega⟩) := by
  pointwise

theorem P7_at (n : Fin 128) : View.canon (P7 xb g w) (ix3 0 n i) = prod (fr xb g i) (fun k => w (ix2 k ⟨1024 + n.val, by omega⟩)) := by
  unfold P7 kvt
  rw [View.canon_unit_zero z3, lo_at, proj_at]

theorem P8_at (n : Fin 128) : View.canon (P8 xb g w) (ix3 0 n i) = prod (fr xb g i) (fun k => w (ix2 k ⟨1152 + n.val, by omega⟩)) := by
  unfold P8 kvt
  rw [View.canon_unit_zero z3, hi_at, proj_at]
  simp only [← Nat.add_assoc, Nat.reduceAdd]

def yG (y : S1x256x1024.Idx) : EReal := xb y + prod (hr xb g w (y 1)) (fun k => wd (ix2 k (y 2)))

theorem ldy_at (n : ℕ) (h : n + 256 ≤ 1024) :
    View.ld xb (Rect.unit (s := S1x256x1024) ![0, 0, n] ![1, 256, 256] (inbY n h)) (ix3 0 i j : S1x256x256.Idx) = xb (ix3 0 i ⟨n + j.val, by omega⟩) := by
  refine congrArg xb (funext fun a => Fin.ext ?_)
  fin_cases a
  · rfl
  · show 0 + 1 * i.val = i.val; omega
  · show n + 1 * j.val = n + j.val; omega

theorem ytile_at (n : ℕ) (h : n + 256 ≤ 1024) : k0_pay367 (hsc xb g w) (hcd xb g w (hfull xb g w)) (dcol wd n h)
    (View.ld xb (Rect.unit (s := S1x256x1024) ![0, 0, n] ![1, 256, 256] (inbY n h))) (ix3 0 i j)
      = xb (ix3 0 i ⟨n + j.val, by omega⟩) + prod (hr xb g w i) (fun k => wd (ix2 k ⟨n + j.val, by omega⟩)) := by
  rw [pay367_at, hsc_at, ldy_at xb i j n h]
  simp only [hcd_at, dcol_at]
  rfl

theorem ypc_at (n : ℕ) (h : n + 256 ≤ 1024) (x : (ypc xb g w wd (hfull xb g w) n h).1.shape.Idx) :
    (ypc xb g w wd (hfull xb g w) n h).2 x = yG xb g w wd ((ypc xb g w wd (hfull xb g w) n h).1.emb x) := by
  have hx : x = (ix3 0 (x 1 : Fin 256) (x 2 : Fin 256) : S1x256x256.Idx) := by
    funext a; fin_cases a
    · exact Fin.ext (by have : (x 0).val < 1 := (x 0).isLt; show (x 0).val = 0; omega)
    · rfl
    · rfl
  rw [hx]
  refine (ytile_at xb g w wd _ _ n h).trans ?_
  unfold yG
  congr 1
  · refine congrArg xb (funext fun a => Fin.ext ?_)
    fin_cases a
    · rfl
    · show (x 1).val = 0 + 1 * (x 1).val; omega
    · show n + (x 2).val = n + 1 * (x 2).val; omega
  · congr 1
    · exact congrArg _ (Fin.ext (by show (x 1).val = 0 + 1 * (x 1).val; omega))
    · funext k
      refine congrArg (fun n => wd (ix2 k n)) (Fin.ext ?_)
      show n + (x 2).val = n + 1 * (x 2).val; omega

theorem P9_at (n : Fin 1024) : View.canon (P9 xb g w wd (hfull xb g w)) (ix3 0 i n) = xb (ix3 0 i n) + prod (hr xb g w i) (fun k => wd (ix2 k n)) := by
  refine View.canon_apply_of_pieces (yG xb g w wd) (P9 xb g w wd (hfull xb g w)) ?_ _ (cover_P9 xb g w wd _ _)
  intro p hp
  unfold P9 at hp
  simp only [List.mem_cons, List.not_mem_nil, or_false] at hp
  rcases hp with rfl | rfl | rfl | rfl <;> exact ypc_at xb g w wd _ _

theorem upX_at (v : FVec Ideal S256x1024 .fp8e4m3) (n : Fin 1024) : shapeCast S1x256x1024 v shapeCasts_S256x1024_S1x256x1024 (ix3 0 i n) = v (ix2 i n) := by
  pointwise
theorem upH_at (v : FVec Ideal S256x2816 .fp8e4m3) (n : Fin 2816) : shapeCast S1x256x2816 v shapeCasts_S256x2816_S1x256x2816 (ix3 0 i n) = v (ix2 i n) := by
  pointwise

theorem P10_at (n : Fin 1024) : View.canon (P10 xb g) (ix3 0 i n) = code (fr xb g i) n := by
  unfold P10
  rw [View.canon_unit_zero z3, upX_at, xcd_at]

theorem P12_at (n : Fin 2816) : View.canon (P12 xb g w (hfull xb g w)) (ix3 0 i n) = code (hr xb g w i) n := by
  unfold P12
  rw [View.canon_unit_zero z3, upH_at, hcd_at]

theorem xs_at : k0_pay363 (F := Ideal) (xe xb g) (ix2 0 i) = scl (fr xb g i) := by
  rw [pay363_at, xe_at, (scale_eq _ (amax_nonneg _)).1]
  rfl

theorem hs_at : k0_pay363 (F := Ideal) (he xb g w) (ix2 0 i) = scl (hr xb g w i) := by
  rw [pay363_at, he_at, (scale_eq _ (amax_nonneg _)).1]
  rfl

/-! ## The dequantised weights -/

variable (x2 : Vec Ideal S512x6912 .i8) (x3 : Vec Ideal S8x6912 .f32) (x4 : Vec Ideal S1408x1024 .i8) (x5 : Vec Ideal S22x1024 .f32)

/-- A weight: its code times its group's scale. -/
def w1G (r : Fin 1024) (n : Fin 6912) : EReal := wnib (x2 (ix2 ⟨r.val / 2, by omega⟩ n)) (r.val % 2) * x3 (ix2 ⟨r.val / 128, by omega⟩ n)

theorem w1pc_at (k : Fin 216) (x : (w1pc x2 x3 k).1.shape.Idx) :
    (w1pc x2 x3 k).2 x = w1G x2 x3 ((((w1pc x2 x3 k).1.emb x) : S1024x6912.Idx) 0) ((((w1pc x2 x3 k).1.emb x) : S1024x6912.Idx) 1) := by
  have hk := k.isLt
  have hx : x = (ix2 (x 0 : Fin 128) (x 1 : Fin 256) : S128x256.Idx) := by funext a; fin_cases a <;> rfl
  have h0 : (x 0).val < 128 := (x 0).isLt
  have h1 : (x 1).val < 256 := (x 1).isLt
  have e0 : (((w1pc x2 x3 k).1.emb x : S1024x6912.Idx) 0) = ⟨128 * ((215 - k.val) / 27) + (x 0).val, by show _ < 1024; omega⟩ :=
    Fin.ext (by show 128 * ((215 - k.val) / 27) + 1 * (x 0).val = 128 * ((215 - k.val) / 27) + (x 0).val; omega)
  have e1 : (((w1pc x2 x3 k).1.emb x : S1024x6912.Idx) 1) = ⟨256 * ((215 - k.val) % 27) + (x 1).val, by show _ < 6912; omega⟩ :=
    Fin.ext (by show 256 * ((215 - k.val) % 27) + 1 * (x 1).val = 256 * ((215 - k.val) % 27) + (x 1).val; omega)
  rw [e0, e1]
  refine (congrArg (w1pc x2 x3 k).2 hx).trans ((pay3_at _ _ _ _).trans ?_)
  unfold w1G
  congr 1
  · congr 1
    · refine congrArg x2 (funext fun a => Fin.ext ?_)
      fin_cases a
      · show 64 * ((215 - k.val) / 27) + 1 * ((x 0).val / 2) = (128 * ((215 - k.val) / 27) + (x 0).val) / 2; omega
      · show 256 * ((215 - k.val) % 27) + 1 * (x 1).val = 256 * ((215 - k.val) % 27) + (x 1).val; omega
    · show (x 0).val % 2 = (128 * ((215 - k.val) / 27) + (x 0).val) % 2; omega
  · refine congrArg x3 (funext fun a => Fin.ext ?_)
    fin_cases a
    · show (215 - k.val) / 27 + 1 * 0 = (128 * ((215 - k.val) / 27) + (x 0).val) / 128; omega
    · show 256 * ((215 - k.val) % 27) + 1 * (x 1).val = 256 * ((215 - k.val) % 27) + (x 1).val; omega

theorem W1_at (r : Fin 1024) (n : Fin 6912) : W1 x2 x3 (ix2 r n) = w1G x2 x3 r n := by
  refine View.canon_apply_of_pieces (fun y : S1024x6912.Idx => w1G x2 x3 (y 0) (y 1)) (PS0 x2 x3) ?_ _ (cover_PS0 x2 x3 _)
  intro p hp
  unfold PS0 at hp
  rw [List.mem_ofFn] at hp
  obtain ⟨k, rfl⟩ := hp
  exact w1pc_at x2 x3 k

/-- A weight: its code times its group's scale. -/
def w2G (r : Fin 2816) (n : Fin 1024) : EReal := wnib (x4 (ix2 ⟨r.val / 2, by omega⟩ n)) (r.val % 2) * x5 (ix2 ⟨r.val / 128, by omega⟩ n)

theorem w2pc_at (k : Fin 88) (x : (w2pc x4 x5 k).1.shape.Idx) :
    (w2pc x4 x5 k).2 x = w2G x4 x5 ((((w2pc x4 x5 k).1.emb x) : S2816x1024.Idx) 0) ((((w2pc x4 x5 k).1.emb x) : S2816x1024.Idx) 1) := by
  have hk := k.isLt
  have hx : x = (ix2 (x 0 : Fin 128) (x 1 : Fin 256) : S128x256.Idx) := by funext a; fin_cases a <;> rfl
  have h0 : (x 0).val < 128 := (x 0).isLt
  have h1 : (x 1).val < 256 := (x 1).isLt
  have e0 : (((w2pc x4 x5 k).1.emb x : S2816x1024.Idx) 0) = ⟨128 * ((87 - k.val) / 4) + (x 0).val, by show _ < 2816; omega⟩ :=
    Fin.ext (by show 128 * ((87 - k.val) / 4) + 1 * (x 0).val = 128 * ((87 - k.val) / 4) + (x 0).val; omega)
  have e1 : (((w2pc x4 x5 k).1.emb x : S2816x1024.Idx) 1) = ⟨256 * ((87 - k.val) % 4) + (x 1).val, by show _ < 1024; omega⟩ :=
    Fin.ext (by show 256 * ((87 - k.val) % 4) + 1 * (x 1).val = 256 * ((87 - k.val) % 4) + (x 1).val; omega)
  rw [e0, e1]
  refine (congrArg (w2pc x4 x5 k).2 hx).trans ((pay3_at _ _ _ _).trans ?_)
  unfold w2G
  congr 1
  · congr 1
    · refine congrArg x4 (funext fun a => Fin.ext ?_)
      fin_cases a
      · show 64 * ((87 - k.val) / 4) + 1 * ((x 0).val / 2) = (128 * ((87 - k.val) / 4) + (x 0).val) / 2; omega
      · show 256 * ((87 - k.val) % 4) + 1 * (x 1).val = 256 * ((87 - k.val) % 4) + (x 1).val; omega
    · show (x 0).val % 2 = (128 * ((87 - k.val) / 4) + (x 0).val) % 2; omega
  · refine congrArg x5 (funext fun a => Fin.ext ?_)
    fin_cases a
    · show (87 - k.val) / 4 + 1 * 0 = (128 * ((87 - k.val) / 4) + (x 0).val) / 128; omega
    · show 256 * ((87 - k.val) % 4) + 1 * (x 1).val = 256 * ((87 - k.val) % 4) + (x 1).val; omega

theorem W2_at (r : Fin 2816) (n : Fin 1024) : W2 x4 x5 (ix2 r n) = w2G x4 x5 r n := by
  refine View.canon_apply_of_pieces (fun y : S2816x1024.Idx => w2G x4 x5 (y 0) (y 1)) (PS1 x4 x5) ?_ _ (cover_PS1 x4 x5 _)
  intro p hp
  unfold PS1 at hp
  rw [List.mem_ofFn] at hp
  obtain ⟨k, rfl⟩ := hp
  exact w2pc_at x4 x5 k

end Cert.KernelIdeal.Run

end
-- ==== Proof.KMem.lean ====
/- The kernel's eight results at extended reals, element by element, in terms of the arguments it was launched with. -/
module

public import proofs.«01_k».proof.Proof.KValue
public import proofs.«01_k».proof.Proof.KBlock
public import Idealize.ShloMosaic.Lib.StableHlo.ReadAt

@[expose] public section

set_option maxRecDepth 16384

noncomputable section

namespace Cert.KernelIdeal.Run

open Cert.KernelIdeal Cert.KernelIdeal.Gen
open Idealize.ShloMosaic Idealize.ShloMosaic.TcCoe Idealize.SL.Sem
open Cert.PSpec

variable (m : (ℓ : Loc nD τ sig) → Buf (Elt Ideal) ℓ) (c : Dev nD)

/-! ## The arguments, and the blocks the body reads of them -/

def a0 : S8x256x1024.Idx → EReal := m ((c : Thread nD τ).loc main_arg0)
def a1 : S1024.Idx → EReal := m ((c : Thread nD τ).loc main_arg1)
def a2 : S512x6912.Idx → BitVec 8 := m ((c : Thread nD τ).loc main_arg2)
def a3 : S8x6912.Idx → EReal := m ((c : Thread nD τ).loc main_arg3)
def a4 : S1408x1024.Idx → BitVec 8 := m ((c : Thread nD τ).loc main_arg4)
def a5 : S22x1024.Idx → EReal := m ((c : Thread nD τ).loc main_arg5)

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-- The grid point of a batch. -/
def pt (b : Fin 8) : Fin cfg0.N := ⟨b.val, lt_of_lt_of_eq b.isLt N_0.symm⟩

theorem xblk_at (b : Fin 8) (i : Fin 256) (k : Fin 1024) : xblk m c (pt b) (ix3 0 i k) = a0 m c (ix3 b i k) := by
  obtain ⟨e0, e1, e2⟩ := idx0 (pt b)
  refine (congrFun (V_main_arg0 m c) _).trans ?_
  refine congrArg (a0 m c) (funext fun a => Fin.ext ?_)
  fin_cases a
  · show win0_0.index (pt b) (0 : Fin 3) * 1 + 1 * 0 = b.val
    rw [e0]; show b.val * 1 + 1 * 0 = b.val; omega
  · show win0_0.index (pt b) (1 : Fin 3) * 256 + 1 * i.val = i.val; rw [e1]; omega
  · show win0_0.index (pt b) (2 : Fin 3) * 1024 + 1 * k.val = k.val; rw [e2]; omega

theorem V_main_v0 (k : Fin 1024) : V m c main_v0 (ix2 0 k) = a1 m c (ix1 k) := by
  unfold V a1
  after_reads_at

theorem gblk_at (b : Fin 8) (k : Fin 1024) : gblk m c (pt b) (ix2 0 k) = a1 m c (ix1 k) := by
  obtain ⟨e0, e1⟩ := idx1 (pt b)
  refine Eq.trans ?_ (V_main_v0 m c k)
  refine congrArg (V m c main_v0) (funext fun a => Fin.ext ?_)
  fin_cases a
  · show win0_1.index (pt b) (0 : Fin 2) * 1 + 1 * 0 = 0; rw [e0]
  · show win0_1.index (pt b) (1 : Fin 2) * 1024 + 1 * k.val = k.val; rw [e1]; omega

theorem blk2_eq : iblk m c 2 pt0 = a2 m c := by
  obtain ⟨e0, e1⟩ := idx2 pt0
  funext y
  refine (congrFun (V_main_arg2 m c) _).trans ?_
  refine congrArg (a2 m c) (funext fun a => Fin.ext ?_)
  match a with
  | ⟨0, _⟩ => show win0_2.index pt0 (0 : Fin 2) * 512 + 1 * (y 0).val = (y 0).val; rw [e0]; omega
  | ⟨1, _⟩ => show win0_2.index pt0 (1 : Fin 2) * 6912 + 1 * (y 1).val = (y 1).val; rw [e1]; omega

theorem blk3_eq : iblk m c 3 pt0 = a3 m c := by
  obtain ⟨e0, e1⟩ := idx3 pt0
  funext y
  refine (congrFun (V_main_arg3 m c) _).trans ?_
  refine congrArg (a3 m c) (funext fun a => Fin.ext ?_)
  match a with
  | ⟨0, _⟩ => show win0_3.index pt0 (0 : Fin 2) * 8 + 1 * (y 0).val = (y 0).val; rw [e0]; omega
  | ⟨1, _⟩ => show win0_3.index pt0 (1 : Fin 2) * 6912 + 1 * (y 1).val = (y 1).val; rw [e1]; omega

theorem blk4_eq : iblk m c 4 pt0 = a4 m c := by
  obtain ⟨e0, e1⟩ := idx4 pt0
  funext y
  refine (congrFun (V_main_arg4 m c) _).trans ?_
  refine congrArg (a4 m c) (funext fun a => Fin.ext ?_)
  match a with
  | ⟨0, _⟩ => show win0_4.index pt0 (0 : Fin 2) * 1408 + 1 * (y 0).val = (y 0).val; rw [e0]; omega
  | ⟨1, _⟩ => show win0_4.index pt0 (1 : Fin 2) * 1024 + 1 * (y 1).val = (y 1).val; rw [e1]; omega

theorem blk5_eq : iblk m c 5 pt0 = a5 m c := by
  obtain ⟨e0, e1⟩ := idx5 pt0
  funext y
  refine (congrFun (V_main_arg5 m c) _).trans ?_
  refine congrArg (a5 m c) (funext fun a => Fin.ext ?_)
  match a with
  | ⟨0, _⟩ => show win0_5.index pt0 (0 : Fin 2) * 22 + 1 * (y 0).val = (y 0).val; rw [e0]; omega
  | ⟨1, _⟩ => show win0_5.index pt0 (1 : Fin 2) * 1024 + 1 * (y 1).val = (y 1).val; rw [e1]; omega

/-! ## Rows in terms of the arguments -/

def frow (b : Fin 8) (i : Fin 256) : Fin 1024 → EReal := xn (fun k => a0 m c (ix3 b i k)) (fun k => a1 m c (ix1 k))
def hidr (b : Fin 8) (i : Fin 256) : Fin 2816 → EReal := hid (frow m c b i) (fun k n => w1G (a2 m c) (a3 m c) k n)

theorem W1m_at (k : Fin 1024) (n : Fin 6912) : W1m m c (ix2 k n) = w1G (a2 m c) (a3 m c) k n := by
  unfold W1m
  rw [blk2_eq, blk3_eq, W1_at]
theorem W2m_at (k : Fin 2816) (n : Fin 1024) : W2m m c (ix2 k n) = w2G (a4 m c) (a5 m c) k n := by
  unfold W2m
  rw [blk4_eq, blk5_eq, W2_at]

theorem fr_eq (b : Fin 8) (i : Fin 256) : fr (xblk m c (pt b)) (gblk m c (pt b)) i = frow m c b i := by
  unfold fr frow
  simp only [xblk_at, gblk_at]

theorem hr_eq (b : Fin 8) (i : Fin 256) : hr (xblk m c (pt b)) (gblk m c (pt b)) (W1m m c) i = hidr m c b i := by
  unfold hr hidr
  simp only [fr_eq, W1m_at]

/-! ## The results -/

theorem q_at (b : Fin 8) (n : Fin 1024) (i : Fin 256) : G6 m c (ix3 b n i) = prod (frow m c b i) (fun k => w1G (a2 m c) (a3 m c) k ⟨n.val, by omega⟩) := by
  have hb := b.isLt
  have hp := n.isLt
  have hq := i.isLt
  have e : pt6Of (ix3 b n i) = b.val := by
    show 1 * (b.val / 1 - 0) + 1 * (n.val / 1024 - 0) + 1 * (i.val / 256 - 0) = b.val; omega
  have el : loc6Of (ix3 b n i) = ix3 0 n i := by
    funext a; apply Fin.ext
    match a with
    | ⟨0, _⟩ => show b.val % 1 = 0; omega
    | ⟨1, _⟩ => show n.val % 1024 = n.val; omega
    | ⟨2, _⟩ => show i.val % 256 = i.val; omega
  have h : pt6Of (ix3 b n i) < cfg0.N := lt_of_eq_of_lt e (pt b).isLt
  have et : (⟨pt6Of (ix3 b n i), h⟩ : Fin cfg0.N) = pt b := Fin.ext e
  unfold G6
  rw [dif_pos h, et, el]
  unfold D6
  rw [P6_at, fr_eq]
  simp only [W1m_at]

theorem k_at (b : Fin 8) (n : Fin 128) (i : Fin 256) : G7 m c (ix3 b n i) = prod (frow m c b i) (fun k => w1G (a2 m c) (a3 m c) k ⟨1024 + n.val, by omega⟩) := by
  have hb := b.isLt
  have hp := n.isLt
  have hq := i.isLt
  have e : pt7Of (ix3 b n i) = b.val := by
    show 1 * (b.val / 1 - 0) + 1 * (n.val / 128 - 0) + 1 * (i.val / 256 - 0) = b.val; omega
  have el : loc7Of (ix3 b n i) = ix3 0 n i := by
    funext a; apply Fin.ext
    match a with
    | ⟨0, _⟩ => show b.val % 1 = 0; omega
    | ⟨1, _⟩ => show n.val % 128 = n.val; omega
    | ⟨2, _⟩ => show i.val % 256 = i.val; omega
  have h : pt7Of (ix3 b n i) < cfg0.N := lt_of_eq_of_lt e (pt b).isLt
  have et : (⟨pt7Of (ix3 b n i), h⟩ : Fin cfg0.N) = pt b := Fin.ext e
  unfold G7
  rw [dif_pos h, et, el]
  unfold D7
  rw [P7_at, fr_eq]
  simp only [W1m_at]

theorem v_at (b : Fin 8) (n : Fin 128) (i : Fin 256) : G8 m c (ix3 b n i) = prod (frow m c b i) (fun k => w1G (a2 m c) (a3 m c) k ⟨1152 + n.val, by omega⟩) := by
  have hb := b.isLt
  have hp := n.isLt
  have hq := i.isLt
  have e : pt8Of (ix3 b n i) = b.val := by
    show 1 * (b.val / 1 - 0) + 1 * (n.val / 128 - 0) + 1 * (i.val / 256 - 0) = b.val; omega
  have el : loc8Of (ix3 b n i) = ix3 0 n i := by
    funext a; apply Fin.ext
    match a with
    | ⟨0, _⟩ => show b.val % 1 = 0; omega
    | ⟨1, _⟩ => show n.val % 128 = n.val; omega
    | ⟨2, _⟩ => show i.val % 256 = i.val; omega
  have h : pt8Of (ix3 b n i) < cfg0.N := lt_of_eq_of_lt e (pt b).isLt
  have et : (⟨pt8Of (ix3 b n i), h⟩ : Fin cfg0.N) = pt b := Fin.ext e
  unfold G8
  rw [dif_pos h, et, el]
  unfold D8
  rw [P8_at, fr_eq]
  simp only [W1m_at]

theorem y_at (b : Fin 8) (i : Fin 256) (n : Fin 1024) : G9 m c (ix3 b i n) = a0 m c (ix3 b i n) + prod (hidr m c b i) (fun k => w2G (a4 m c) (a5 m c) k n) := by
  have hb := b.isLt
  have hp := i.isLt
  have hq := n.isLt
  have e : pt9Of (ix3 b i n) = b.val := by
    show 1 * (b.val / 1 - 0) + 1 * (i.val / 256 - 0) + 1 * (n.val / 1024 - 0) = b.val; omega
  have el : loc9Of (ix3 b i n) = ix3 0 i n := by
    funext a; apply Fin.ext
    match a with
    | ⟨0, _⟩ => show b.val % 1 = 0; omega
    | ⟨1, _⟩ => show i.val % 256 = i.val; omega
    | ⟨2, _⟩ => show n.val % 1024 = n.val; omega
  have h : pt9Of (ix3 b i n) < cfg0.N := lt_of_eq_of_lt e (pt b).isLt
  have et : (⟨pt9Of (ix3 b i n), h⟩ : Fin cfg0.N) = pt b := Fin.ext e
  unfold G9
  rw [dif_pos h, et, el]
  unfold D9
  rw [P9_at, hr_eq, xblk_at]
  simp only [W2m_at]

theorem xc_at (b : Fin 8) (i : Fin 256) (n : Fin 1024) : G10 m c (ix3 b i n) = code (frow m c b i) n := by
  have hb := b.isLt
  have hp := i.isLt
  have hq := n.isLt
  have e : pt10Of (ix3 b i n) = b.val := by
    show 1 * (b.val / 1 - 0) + 1 * (i.val / 256 - 0) + 1 * (n.val / 1024 - 0) = b.val; omega
  have el : loc10Of (ix3 b i n) = ix3 0 i n := by
    funext a; apply Fin.ext
    match a with
    | ⟨0, _⟩ => show b.val % 1 = 0; omega
    | ⟨1, _⟩ => show i.val % 256 = i.val; omega
    | ⟨2, _⟩ => show n.val % 1024 = n.val; omega
  have h : pt10Of (ix3 b i n) < cfg0.N := lt_of_eq_of_lt e (pt b).isLt
  have et : (⟨pt10Of (ix3 b i n), h⟩ : Fin cfg0.N) = pt b := Fin.ext e
  unfold G10
  rw [dif_pos h, et, el]
  unfold D10
  rw [P10_at, fr_eq]

theorem hc_at (b : Fin 8) (i : Fin 256) (n : Fin 2816) : G12 m c (ix3 b i n) = code (hidr m c b i) n := by
  have hb := b.isLt
  have hp := i.isLt
  have hq := n.isLt
  have e : pt12Of (ix3 b i n) = b.val := by
    show 1 * (b.val / 1 - 0) + 1 * (i.val / 256 - 0) + 1 * (n.val / 2816 - 0) = b.val; omega
  have el : loc12Of (ix3 b i n) = ix3 0 i n := by
    funext a; apply Fin.ext
    match a with
    | ⟨0, _⟩ => show b.val % 1 = 0; omega
    | ⟨1, _⟩ => show i.val % 256 = i.val; omega
    | ⟨2, _⟩ => show n.val % 2816 = n.val; omega
  have h : pt12Of (ix3 b i n) < cfg0.N := lt_of_eq_of_lt e (pt b).isLt
  have et : (⟨pt12Of (ix3 b i n), h⟩ : Fin cfg0.N) = pt b := Fin.ext e
  unfold G12
  rw [dif_pos h, et, el]
  unfold D12
  rw [P12_at, hr_eq]

theorem rxsc_at (b : Fin 8) (i : Fin 256) : G11 m c (ix2 b i) = scl (frow m c b i) := by
  have e : G11 m c (ix2 b i) = xrow m c (pt b) (ix2 0 i) := by
    unfold G11
    refine congrArg (xrow m c (pt b)) (funext fun a => ?_)
    match a with
    | ⟨0, _⟩ => rfl
    | ⟨1, _⟩ => rfl
  rw [e]
  unfold xrow
  rw [xs_at, fr_eq]

theorem rhsc_at (b : Fin 8) (i : Fin 256) : G13 m c (ix2 b i) = scl (hidr m c b i) := by
  have e : G13 m c (ix2 b i) = hrow m c (pt b) (ix2 0 i) := by
    unfold G13
    refine congrArg (hrow m c (pt b)) (funext fun a => ?_)
    match a with
    | ⟨0, _⟩ => rfl
    | ⟨1, _⟩ => rfl
  rw [e]
  unfold hrow
  rw [hs_at, hr_eq]

end Cert.KernelIdeal.Run

end
-- ==== Proof.RValue.lean ====
/- What the reference's eight result arrays hold when it has finished: its one body's results, of the arguments and the dequantised weights. -/
module

public import proofs.«01_k».proof.Proof.Gen.ReferenceIdeal.Frame
public import Idealize.ShloMosaic.Lib.Pipeline.Value

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The only point. -/
def pt : Fin cfg0.N := ⟨0, by rw [show cfg0.N = 1 from N_0]; decide⟩

theorem idx0 : ∀ (t : Fin cfg0.N), win0_0.index t (0 : Fin 3) = 0 ∧ win0_0.index t (1 : Fin 3) = 0 ∧ win0_0.index t (2 : Fin 3) = 0 :=
  (by decide +kernel : ∀ t : Fin grid0.N, _)

/-- The input block is the whole array. -/
theorem blk0 (c : Dev nD) (t : Fin cfg0.N) : iblk m c 0 t = V m c main_arg0 := by
  funext y
  show V m c main_arg0 (((cfg0.win 0).blk t).view.emb y) = V m c main_arg0 y
  refine congrArg (V m c main_arg0) ?_
  obtain ⟨e0, e1, e2⟩ := idx0 t
  funext a; apply Fin.ext
  match a with
  | ⟨0, _⟩ => show win0_0.index t (0 : Fin 3) * 8 + 1 * (y 0).val = (y 0).val; rw [e0]; omega
  | ⟨1, _⟩ => show win0_0.index t (1 : Fin 3) * 256 + 1 * (y 1).val = (y 1).val; rw [e1]; omega
  | ⟨2, _⟩ => show win0_0.index t (2 : Fin 3) * 1024 + 1 * (y 2).val = (y 2).val; rw [e2]; omega

theorem idx1 : ∀ (t : Fin cfg0.N), win0_1.index t (0 : Fin 1) = 0 :=
  (by decide +kernel : ∀ t : Fin grid0.N, _)

/-- The input block is the whole array. -/
theorem blk1 (c : Dev nD) (t : Fin cfg0.N) : iblk m c 1 t = V m c main_arg1 := by
  funext y
  show V m c main_arg1 (((cfg0.win 1).blk t).view.emb y) = V m c main_arg1 y
  refine congrArg (V m c main_arg1) ?_
  obtain e0 := idx1 t
  funext a; apply Fin.ext
  match a with
  | ⟨0, _⟩ => show win0_1.index t (0 : Fin 1) * 1024 + 1 * (y 0).val = (y 0).val; rw [e0]; omega

theorem idx2 : ∀ (t : Fin cfg0.N), win0_2.index t (0 : Fin 2) = 0 ∧ win0_2.index t (1 : Fin 2) = 0 :=
  (by decide +kernel : ∀ t : Fin grid0.N, _)

/-- The input block is the whole array. -/
theorem blk2 (c : Dev nD) (t : Fin cfg0.N) : iblk m c 2 t = V m c main_v25 := by
  funext y
  show V m c main_v25 (((cfg0.win 2).blk t).view.emb y) = V m c main_v25 y
  refine congrArg (V m c main_v25) ?_
  obtain ⟨e0, e1⟩ := idx2 t
  funext a; apply Fin.ext
  match a with
  | ⟨0, _⟩ => show win0_2.index t (0 : Fin 2) * 1024 + 1 * (y 0).val = (y 0).val; rw [e0]; omega
  | ⟨1, _⟩ => show win0_2.index t (1 : Fin 2) * 6912 + 1 * (y 1).val = (y 1).val; rw [e1]; omega

theorem idx3 : ∀ (t : Fin cfg0.N), win0_3.index t (0 : Fin 2) = 0 ∧ win0_3.index t (1 : Fin 2) = 0 :=
  (by decide +kernel : ∀ t : Fin grid0.N, _)

/-- The input block is the whole array. -/
theorem blk3 (c : Dev nD) (t : Fin cfg0.N) : iblk m c 3 t = V m c main_v51 := by
  funext y
  show V m c main_v51 (((cfg0.win 3).blk t).view.emb y) = V m c main_v51 y
  refine congrArg (V m c main_v51) ?_
  obtain ⟨e0, e1⟩ := idx3 t
  funext a; apply Fin.ext
  match a with
  | ⟨0, _⟩ => show win0_3.index t (0 : Fin 2) * 2816 + 1 * (y 0).val = (y 0).val; rw [e0]; omega
  | ⟨1, _⟩ => show win0_3.index t (1 : Fin 2) * 1024 + 1 * (y 1).val = (y 1).val; rw [e1]; omega

theorem idx4 : ∀ (t : Fin cfg0.N), win0_4.index t (0 : Fin 3) = 0 ∧ win0_4.index t (1 : Fin 3) = 0 ∧ win0_4.index t (2 : Fin 3) = 0 :=
  (by decide +kernel : ∀ t : Fin grid0.N, _)

theorem final4_of (c : Dev nD) (X : Vec F S8x1024x256 (cfg0.win 4).elt) (h : ∀ t, (dats m 0 c).after 4 t = X) : (dats m 0 c).arrAt 4 cfg0.N = X := by
  refine (dats m 0 c).arrAt_eq_of_cover 4 _ (fun t hf => ?_) (fun i => ⟨pt, by decide +kernel, ?_⟩)
  · show (cfg0.win 4).cut (grid0.coords t) ((dats m 0 c).after 4 t) = _
    rw [h]
    funext y
    show X ((cfg0.win 4).xinj (grid0.coords t) y) = X (((cfg0.win 4).blk t).view.emb y)
    refine congrArg _ (Eq.symm ?_)
    obtain ⟨e0, e1, e2⟩ := idx4 t
    funext a; apply Fin.ext
    match a with
    | ⟨0, _⟩ => show win0_4.index t (0 : Fin 3) * 8 + 1 * (y 0).val = (y 0).val; rw [e0]; omega
    | ⟨1, _⟩ => show win0_4.index t (1 : Fin 3) * 1024 + 1 * (y 1).val = (y 1).val; rw [e1]; omega
    | ⟨2, _⟩ => show win0_4.index t (2 : Fin 3) * 256 + 1 * (y 2).val = (y 2).val; rw [e2]; omega
  · show i ∈ ((View.whole (Pipeline.arrRef spec0 4)).slice (win0_4.rect pt)).set
    rw [View.set_slice_whole, Rect.mem_set_unit]
    obtain ⟨e0, e1, e2⟩ := idx4 pt
    intro a
    match a with
    | ⟨0, _⟩ => show win0_4.index pt (0 : Fin 3) * 8 ≤ (i 0).val ∧ (i 0).val < win0_4.index pt (0 : Fin 3) * 8 + 8; have h : (i 0).val < 8 := (i 0).isLt; rw [e0]; omega
    | ⟨1, _⟩ => show win0_4.index pt (1 : Fin 3) * 1024 ≤ (i 1).val ∧ (i 1).val < win0_4.index pt (1 : Fin 3) * 1024 + 1024; have h : (i 1).val < 1024 := (i 1).isLt; rw [e1]; omega
    | ⟨2, _⟩ => show win0_4.index pt (2 : Fin 3) * 256 ≤ (i 2).val ∧ (i 2).val < win0_4.index pt (2 : Fin 3) * 256 + 256; have h : (i 2).val < 256 := (i 2).isLt; rw [e2]; omega
theorem final4 (c : Dev nD) : (dats m 0 c).arrAt 4 cfg0.N = out0_4 (V m c main_arg0) (V m c main_arg1) (V m c main_v25) (V m c main_v51) :=
  final4_of m c _ fun t => by rw [after0_4, blk0, blk1, blk2, blk3]

/-- After the run, the result array is the body's result. -/
theorem post4 (r : PUnit × MemSt nD τ sig (Elt F)) (h : Pipeline.FramePost cfgs (dats m) 0 (V m) r) (c : Dev nD) :
    r.2.mem ((c : Thread nD τ).loc main_v52_0) = out0_4 (V m c main_arg0) (V m c main_arg1) (V m c main_v25) (V m c main_v51) :=
  Eq.trans ((h c).1 4) (final4 m c)

theorem idx5 : ∀ (t : Fin cfg0.N), win0_5.index t (0 : Fin 3) = 0 ∧ win0_5.index t (1 : Fin 3) = 0 ∧ win0_5.index t (2 : Fin 3) = 0 :=
  (by decide +kernel : ∀ t : Fin grid0.N, _)

theorem final5_of (c : Dev nD) (X : Vec F S8x128x256 (cfg0.win 5).elt) (h : ∀ t, (dats m 0 c).after 5 t = X) : (dats m 0 c).arrAt 5 cfg0.N = X := by
  refine (dats m 0 c).arrAt_eq_of_cover 5 _ (fun t hf => ?_) (fun i => ⟨pt, by decide +kernel, ?_⟩)
  · show (cfg0.win 5).cut (grid0.coords t) ((dats m 0 c).after 5 t) = _
    rw [h]
    funext y
    show X ((cfg0.win 5).xinj (grid0.coords t) y) = X (((cfg0.win 5).blk t).view.emb y)
    refine congrArg _ (Eq.symm ?_)
    obtain ⟨e0, e1, e2⟩ := idx5 t
    funext a; apply Fin.ext
    match a with
    | ⟨0, _⟩ => show win0_5.index t (0 : Fin 3) * 8 + 1 * (y 0).val = (y 0).val; rw [e0]; omega
    | ⟨1, _⟩ => show win0_5.index t (1 : Fin 3) * 128 + 1 * (y 1).val = (y 1).val; rw [e1]; omega
    | ⟨2, _⟩ => show win0_5.index t (2 : Fin 3) * 256 + 1 * (y 2).val = (y 2).val; rw [e2]; omega
  · show i ∈ ((View.whole (Pipeline.arrRef spec0 5)).slice (win0_5.rect pt)).set
    rw [View.set_slice_whole, Rect.mem_set_unit]
    obtain ⟨e0, e1, e2⟩ := idx5 pt
    intro a
    match a with
    | ⟨0, _⟩ => show win0_5.index pt (0 : Fin 3) * 8 ≤ (i 0).val ∧ (i 0).val < win0_5.index pt (0 : Fin 3) * 8 + 8; have h : (i 0).val < 8 := (i 0).isLt; rw [e0]; omega
    | ⟨1, _⟩ => show win0_5.index pt (1 : Fin 3) * 128 ≤ (i 1).val ∧ (i 1).val < win0_5.index pt (1 : Fin 3) * 128 + 128; have h : (i 1).val < 128 := (i 1).isLt; rw [e1]; omega
    | ⟨2, _⟩ => show win0_5.index pt (2 : Fin 3) * 256 ≤ (i 2).val ∧ (i 2).val < win0_5.index pt (2 : Fin 3) * 256 + 256; have h : (i 2).val < 256 := (i 2).isLt; rw [e2]; omega
theorem final5 (c : Dev nD) : (dats m 0 c).arrAt 5 cfg0.N = out0_5 (V m c main_arg0) (V m c main_arg1) (V m c main_v25) (V m c main_v51) :=
  final5_of m c _ fun t => by rw [after0_5, blk0, blk1, blk2, blk3]

/-- After the run, the result array is the body's result. -/
theorem post5 (r : PUnit × MemSt nD τ sig (Elt F)) (h : Pipeline.FramePost cfgs (dats m) 0 (V m) r) (c : Dev nD) :
    r.2.mem ((c : Thread nD τ).loc main_v52_1) = out0_5 (V m c main_arg0) (V m c main_arg1) (V m c main_v25) (V m c main_v51) :=
  Eq.trans ((h c).1 5) (final5 m c)

theorem idx6 : ∀ (t : Fin cfg0.N), win0_6.index t (0 : Fin 3) = 0 ∧ win0_6.index t (1 : Fin 3) = 0 ∧ win0_6.index t (2 : Fin 3) = 0 :=
  (by decide +kernel : ∀ t : Fin grid0.N, _)

theorem final6_of (c : Dev nD) (X : Vec F S8x128x256 (cfg0.win 6).elt) (h : ∀ t, (dats m 0 c).after 6 t = X) : (dats m 0 c).arrAt 6 cfg0.N = X := by
  refine (dats m 0 c).arrAt_eq_of_cover 6 _ (fun t hf => ?_) (fun i => ⟨pt, by decide +kernel, ?_⟩)
  · show (cfg0.win 6).cut (grid0.coords t) ((dats m 0 c).after 6 t) = _
    rw [h]
    funext y
    show X ((cfg0.win 6).xinj (grid0.coords t) y) = X (((cfg0.win 6).blk t).view.emb y)
    refine congrArg _ (Eq.symm ?_)
    obtain ⟨e0, e1, e2⟩ := idx6 t
    funext a; apply Fin.ext
    match a with
    | ⟨0, _⟩ => show win0_6.index t (0 : Fin 3) * 8 + 1 * (y 0).val = (y 0).val; rw [e0]; omega
    | ⟨1, _⟩ => show win0_6.index t (1 : Fin 3) * 128 + 1 * (y 1).val = (y 1).val; rw [e1]; omega
    | ⟨2, _⟩ => show win0_6.index t (2 : Fin 3) * 256 + 1 * (y 2).val = (y 2).val; rw [e2]; omega
  · show i ∈ ((View.whole (Pipeline.arrRef spec0 6)).slice (win0_6.rect pt)).set
    rw [View.set_slice_whole, Rect.mem_set_unit]
    obtain ⟨e0, e1, e2⟩ := idx6 pt
    intro a
    match a with
    | ⟨0, _⟩ => show win0_6.index pt (0 : Fin 3) * 8 ≤ (i 0).val ∧ (i 0).val < win0_6.index pt (0 : Fin 3) * 8 + 8; have h : (i 0).val < 8 := (i 0).isLt; rw [e0]; omega
    | ⟨1, _⟩ => show win0_6.index pt (1 : Fin 3) * 128 ≤ (i 1).val ∧ (i 1).val < win0_6.index pt (1 : Fin 3) * 128 + 128; have h : (i 1).val < 128 := (i 1).isLt; rw [e1]; omega
    | ⟨2, _⟩ => show win0_6.index pt (2 : Fin 3) * 256 ≤ (i 2).val ∧ (i 2).val < win0_6.index pt (2 : Fin 3) * 256 + 256; have h : (i 2).val < 256 := (i 2).isLt; rw [e2]; omega
theorem final6 (c : Dev nD) : (dats m 0 c).arrAt 6 cfg0.N = out0_6 (V m c main_arg0) (V m c main_arg1) (V m c main_v25) (V m c main_v51) :=
  final6_of m c _ fun t => by rw [after0_6, blk0, blk1, blk2, blk3]

/-- After the run, the result array is the body's result. -/
theorem post6 (r : PUnit × MemSt nD τ sig (Elt F)) (h : Pipeline.FramePost cfgs (dats m) 0 (V m) r) (c : Dev nD) :
    r.2.mem ((c : Thread nD τ).loc main_v52_2) = out0_6 (V m c main_arg0) (V m c main_arg1) (V m c main_v25) (V m c main_v51) :=
  Eq.trans ((h c).1 6) (final6 m c)

theorem idx7 : ∀ (t : Fin cfg0.N), win0_7.index t (0 : Fin 3) = 0 ∧ win0_7.index t (1 : Fin 3) = 0 ∧ win0_7.index t (2 : Fin 3) = 0 :=
  (by decide +kernel : ∀ t : Fin grid0.N, _)

theorem final7_of (c : Dev nD) (X : Vec F S8x256x1024 (cfg0.win 7).elt) (h : ∀ t, (dats m 0 c).after 7 t = X) : (dats m 0 c).arrAt 7 cfg0.N = X := by
  refine (dats m 0 c).arrAt_eq_of_cover 7 _ (fun t hf => ?_) (fun i => ⟨pt, by decide +kernel, ?_⟩)
  · show (cfg0.win 7).cut (grid0.coords t) ((dats m 0 c).after 7 t) = _
    rw [h]
    funext y
    show X ((cfg0.win 7).xinj (grid0.coords t) y) = X (((cfg0.win 7).blk t).view.emb y)
    refine congrArg _ (Eq.symm ?_)
    obtain ⟨e0, e1, e2⟩ := idx7 t
    funext a; apply Fin.ext
    match a with
    | ⟨0, _⟩ => show win0_7.index t (0 : Fin 3) * 8 + 1 * (y 0).val = (y 0).val; rw [e0]; omega
    | ⟨1, _⟩ => show win0_7.index t (1 : Fin 3) * 256 + 1 * (y 1).val = (y 1).val; rw [e1]; omega
    | ⟨2, _⟩ => show win0_7.index t (2 : Fin 3) * 1024 + 1 * (y 2).val = (y 2).val; rw [e2]; omega
  · show i ∈ ((View.whole (Pipeline.arrRef spec0 7)).slice (win0_7.rect pt)).set
    rw [View.set_slice_whole, Rect.mem_set_unit]
    obtain ⟨e0, e1, e2⟩ := idx7 pt
    intro a
    match a with
    | ⟨0, _⟩ => show win0_7.index pt (0 : Fin 3) * 8 ≤ (i 0).val ∧ (i 0).val < win0_7.index pt (0 : Fin 3) * 8 + 8; have h : (i 0).val < 8 := (i 0).isLt; rw [e0]; omega
    | ⟨1, _⟩ => show win0_7.index pt (1 : Fin 3) * 256 ≤ (i 1).val ∧ (i 1).val < win0_7.index pt (1 : Fin 3) * 256 + 256; have h : (i 1).val < 256 := (i 1).isLt; rw [e1]; omega
    | ⟨2, _⟩ => show win0_7.index pt (2 : Fin 3) * 1024 ≤ (i 2).val ∧ (i 2).val < win0_7.index pt (2 : Fin 3) * 1024 + 1024; have h : (i 2).val < 1024 := (i 2).isLt; rw [e2]; omega
theorem final7 (c : Dev nD) : (dats m 0 c).arrAt 7 cfg0.N = out0_7 (V m c main_arg0) (V m c main_arg1) (V m c main_v25) (V m c main_v51) :=
  final7_of m c _ fun t => by rw [after0_7, blk0, blk1, blk2, blk3]

/-- After the run, the result array is the body's result. -/
theorem post7 (r : PUnit × MemSt nD τ sig (Elt F)) (h : Pipeline.FramePost cfgs (dats m) 0 (V m) r) (c : Dev nD) :
    r.2.mem ((c : Thread nD τ).loc main_v52_3) = out0_7 (V m c main_arg0) (V m c main_arg1) (V m c main_v25) (V m c main_v51) :=
  Eq.trans ((h c).1 7) (final7 m c)

theorem idx8 : ∀ (t : Fin cfg0.N), win0_8.index t (0 : Fin 3) = 0 ∧ win0_8.index t (1 : Fin 3) = 0 ∧ win0_8.index t (2 : Fin 3) = 0 :=
  (by decide +kernel : ∀ t : Fin grid0.N, _)

theorem final8_of (c : Dev nD) (X : Vec F S8x256x1024 (cfg0.win 8).elt) (h : ∀ t, (dats m 0 c).after 8 t = X) : (dats m 0 c).arrAt 8 cfg0.N = X := by
  refine (dats m 0 c).arrAt_eq_of_cover 8 _ (fun t hf => ?_) (fun i => ⟨pt, by decide +kernel, ?_⟩)
  · show (cfg0.win 8).cut (grid0.coords t) ((dats m 0 c).after 8 t) = _
    rw [h]
    funext y
    show X ((cfg0.win 8).xinj (grid0.coords t) y) = X (((cfg0.win 8).blk t).view.emb y)
    refine congrArg _ (Eq.symm ?_)
    obtain ⟨e0, e1, e2⟩ := idx8 t
    funext a; apply Fin.ext
    match a with
    | ⟨0, _⟩ => show win0_8.index t (0 : Fin 3) * 8 + 1 * (y 0).val = (y 0).val; rw [e0]; omega
    | ⟨1, _⟩ => show win0_8.index t (1 : Fin 3) * 256 + 1 * (y 1).val = (y 1).val; rw [e1]; omega
    | ⟨2, _⟩ => show win0_8.index t (2 : Fin 3) * 1024 + 1 * (y 2).val = (y 2).val; rw [e2]; omega
  · show i ∈ ((View.whole (Pipeline.arrRef spec0 8)).slice (win0_8.rect pt)).set
    rw [View.set_slice_whole, Rect.mem_set_unit]
    obtain ⟨e0, e1, e2⟩ := idx8 pt
    intro a
    match a with
    | ⟨0, _⟩ => show win0_8.index pt (0 : Fin 3) * 8 ≤ (i 0).val ∧ (i 0).val < win0_8.index pt (0 : Fin 3) * 8 + 8; have h : (i 0).val < 8 := (i 0).isLt; rw [e0]; omega
    | ⟨1, _⟩ => show win0_8.index pt (1 : Fin 3) * 256 ≤ (i 1).val ∧ (i 1).val < win0_8.index pt (1 : Fin 3) * 256 + 256; have h : (i 1).val < 256 := (i 1).isLt; rw [e1]; omega
    | ⟨2, _⟩ => show win0_8.index pt (2 : Fin 3) * 1024 ≤ (i 2).val ∧ (i 2).val < win0_8.index pt (2 : Fin 3) * 1024 + 1024; have h : (i 2).val < 1024 := (i 2).isLt; rw [e2]; omega
theorem final8 (c : Dev nD) : (dats m 0 c).arrAt 8 cfg0.N = out0_8 (V m c main_arg0) (V m c main_arg1) (V m c main_v25) (V m c main_v51) :=
  final8_of m c _ fun t => by rw [after0_8, blk0, blk1, blk2, blk3]

/-- After the run, the result array is the body's result. -/
theorem post8 (r : PUnit × MemSt nD τ sig (Elt F)) (h : Pipeline.FramePost cfgs (dats m) 0 (V m) r) (c : Dev nD) :
    r.2.mem ((c : Thread nD τ).loc main_v52_4) = out0_8 (V m c main_arg0) (V m c main_arg1) (V m c main_v25) (V m c main_v51) :=
  Eq.trans ((h c).1 8) (final8 m c)

theorem idx9 : ∀ (t : Fin cfg0.N), win0_9.index t (0 : Fin 2) = 0 ∧ win0_9.index t (1 : Fin 2) = 0 :=
  (by decide +kernel : ∀ t : Fin grid0.N, _)

theorem final9_of (c : Dev nD) (X : Vec F S8x256 (cfg0.win 9).elt) (h : ∀ t, (dats m 0 c).after 9 t = X) : (dats m 0 c).arrAt 9 cfg0.N = X := by
  refine (dats m 0 c).arrAt_eq_of_cover 9 _ (fun t hf => ?_) (fun i => ⟨pt, by decide +kernel, ?_⟩)
  · show (cfg0.win 9).cut (grid0.coords t) ((dats m 0 c).after 9 t) = _
    rw [h]
    funext y
    show X ((cfg0.win 9).xinj (grid0.coords t) y) = X (((cfg0.win 9).blk t).view.emb y)
    refine congrArg _ (Eq.symm ?_)
    obtain ⟨e0, e1⟩ := idx9 t
    funext a; apply Fin.ext
    match a with
    | ⟨0, _⟩ => show win0_9.index t (0 : Fin 2) * 8 + 1 * (y 0).val = (y 0).val; rw [e0]; omega
    | ⟨1, _⟩ => show win0_9.index t (1 : Fin 2) * 256 + 1 * (y 1).val = (y 1).val; rw [e1]; omega
  · show i ∈ ((View.whole (Pipeline.arrRef spec0 9)).slice (win0_9.rect pt)).set
    rw [View.set_slice_whole, Rect.mem_set_unit]
    obtain ⟨e0, e1⟩ := idx9 pt
    intro a
    match a with
    | ⟨0, _⟩ => show win0_9.index pt (0 : Fin 2) * 8 ≤ (i 0).val ∧ (i 0).val < win0_9.index pt (0 : Fin 2) * 8 + 8; have h : (i 0).val < 8 := (i 0).isLt; rw [e0]; omega
    | ⟨1, _⟩ => show win0_9.index pt (1 : Fin 2) * 256 ≤ (i 1).val ∧ (i 1).val < win0_9.index pt (1 : Fin 2) * 256 + 256; have h : (i 1).val < 256 := (i 1).isLt; rw [e1]; omega
theorem final9 (c : Dev nD) : (dats m 0 c).arrAt 9 cfg0.N = out0_9 (V m c main_arg0) (V m c main_arg1) (V m c main_v25) (V m c main_v51) :=
  final9_of m c _ fun t => by rw [after0_9, blk0, blk1, blk2, blk3]

/-- After the run, the result array is the body's result. -/
theorem post9 (r : PUnit × MemSt nD τ sig (Elt F)) (h : Pipeline.FramePost cfgs (dats m) 0 (V m) r) (c : Dev nD) :
    r.2.mem ((c : Thread nD τ).loc main_v52_5) = out0_9 (V m c main_arg0) (V m c main_arg1) (V m c main_v25) (V m c main_v51) :=
  Eq.trans ((h c).1 9) (final9 m c)

theorem idx10 : ∀ (t : Fin cfg0.N), win0_10.index t (0 : Fin 3) = 0 ∧ win0_10.index t (1 : Fin 3) = 0 ∧ win0_10.index t (2 : Fin 3) = 0 :=
  (by decide +kernel : ∀ t : Fin grid0.N, _)

theorem final10_of (c : Dev nD) (X : Vec F S8x256x2816 (cfg0.win 10).elt) (h : ∀ t, (dats m 0 c).after 10 t = X) : (dats m 0 c).arrAt 10 cfg0.N = X := by
  refine (dats m 0 c).arrAt_eq_of_cover 10 _ (fun t hf => ?_) (fun i => ⟨pt, by decide +kernel, ?_⟩)
  · show (cfg0.win 10).cut (grid0.coords t) ((dats m 0 c).after 10 t) = _
    rw [h]
    funext y
    show X ((cfg0.win 10).xinj (grid0.coords t) y) = X (((cfg0.win 10).blk t).view.emb y)
    refine congrArg _ (Eq.symm ?_)
    obtain ⟨e0, e1, e2⟩ := idx10 t
    funext a; apply Fin.ext
    match a with
    | ⟨0, _⟩ => show win0_10.index t (0 : Fin 3) * 8 + 1 * (y 0).val = (y 0).val; rw [e0]; omega
    | ⟨1, _⟩ => show win0_10.index t (1 : Fin 3) * 256 + 1 * (y 1).val = (y 1).val; rw [e1]; omega
    | ⟨2, _⟩ => show win0_10.index t (2 : Fin 3) * 2816 + 1 * (y 2).val = (y 2).val; rw [e2]; omega
  · show i ∈ ((View.whole (Pipeline.arrRef spec0 10)).slice (win0_10.rect pt)).set
    rw [View.set_slice_whole, Rect.mem_set_unit]
    obtain ⟨e0, e1, e2⟩ := idx10 pt
    intro a
    match a with
    | ⟨0, _⟩ => show win0_10.index pt (0 : Fin 3) * 8 ≤ (i 0).val ∧ (i 0).val < win0_10.index pt (0 : Fin 3) * 8 + 8; have h : (i 0).val < 8 := (i 0).isLt; rw [e0]; omega
    | ⟨1, _⟩ => show win0_10.index pt (1 : Fin 3) * 256 ≤ (i 1).val ∧ (i 1).val < win0_10.index pt (1 : Fin 3) * 256 + 256; have h : (i 1).val < 256 := (i 1).isLt; rw [e1]; omega
    | ⟨2, _⟩ => show win0_10.index pt (2 : Fin 3) * 2816 ≤ (i 2).val ∧ (i 2).val < win0_10.index pt (2 : Fin 3) * 2816 + 2816; have h : (i 2).val < 2816 := (i 2).isLt; rw [e2]; omega
theorem final10 (c : Dev nD) : (dats m 0 c).arrAt 10 cfg0.N = out0_10 (V m c main_arg0) (V m c main_arg1) (V m c main_v25) (V m c main_v51) :=
  final10_of m c _ fun t => by rw [after0_10, blk0, blk1, blk2, blk3]

/-- After the run, the result array is the body's result. -/
theorem post10 (r : PUnit × MemSt nD τ sig (Elt F)) (h : Pipeline.FramePost cfgs (dats m) 0 (V m) r) (c : Dev nD) :
    r.2.mem ((c : Thread nD τ).loc main_v52_6) = out0_10 (V m c main_arg0) (V m c main_arg1) (V m c main_v25) (V m c main_v51) :=
  Eq.trans ((h c).1 10) (final10 m c)

theorem idx11 : ∀ (t : Fin cfg0.N), win0_11.index t (0 : Fin 2) = 0 ∧ win0_11.index t (1 : Fin 2) = 0 :=
  (by decide +kernel : ∀ t : Fin grid0.N, _)

theorem final11_of (c : Dev nD) (X : Vec F S8x256 (cfg0.win 11).elt) (h : ∀ t, (dats m 0 c).after 11 t = X) : (dats m 0 c).arrAt 11 cfg0.N = X := by
  refine (dats m 0 c).arrAt_eq_of_cover 11 _ (fun t hf => ?_) (fun i => ⟨pt, by decide +kernel, ?_⟩)
  · show (cfg0.win 11).cut (grid0.coords t) ((dats m 0 c).after 11 t) = _
    rw [h]
    funext y
    show X ((cfg0.win 11).xinj (grid0.coords t) y) = X (((cfg0.win 11).blk t).view.emb y)
    refine congrArg _ (Eq.symm ?_)
    obtain ⟨e0, e1⟩ := idx11 t
    funext a; apply Fin.ext
    match a with
    | ⟨0, _⟩ => show win0_11.index t (0 : Fin 2) * 8 + 1 * (y 0).val = (y 0).val; rw [e0]; omega
    | ⟨1, _⟩ => show win0_11.index t (1 : Fin 2) * 256 + 1 * (y 1).val = (y 1).val; rw [e1]; omega
  · show i ∈ ((View.whole (Pipeline.arrRef spec0 11)).slice (win0_11.rect pt)).set
    rw [View.set_slice_whole, Rect.mem_set_unit]
    obtain ⟨e0, e1⟩ := idx11 pt
    intro a
    match a with
    | ⟨0, _⟩ => show win0_11.index pt (0 : Fin 2) * 8 ≤ (i 0).val ∧ (i 0).val < win0_11.index pt (0 : Fin 2) * 8 + 8; have h : (i 0).val < 8 := (i 0).isLt; rw [e0]; omega
    | ⟨1, _⟩ => show win0_11.index pt (1 : Fin 2) * 256 ≤ (i 1).val ∧ (i 1).val < win0_11.index pt (1 : Fin 2) * 256 + 256; have h : (i 1).val < 256 := (i 1).isLt; rw [e1]; omega
theorem final11 (c : Dev nD) : (dats m 0 c).arrAt 11 cfg0.N = out0_11 (V m c main_arg0) (V m c main_arg1) (V m c main_v25) (V m c main_v51) :=
  final11_of m c _ fun t => by rw [after0_11, blk0, blk1, blk2, blk3]

/-- After the run, the result array is the body's result. -/
theorem post11 (r : PUnit × MemSt nD τ sig (Elt F)) (h : Pipeline.FramePost cfgs (dats m) 0 (V m) r) (c : Dev nD) :
    r.2.mem ((c : Thread nD τ).loc main_v52_7) = out0_11 (V m c main_arg0) (V m c main_arg1) (V m c main_v25) (V m c main_v51) :=
  Eq.trans ((h c).1 11) (final11 m c)

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The reference's run: each result array holds the body's result, the arguments are as launched. -/
theorem run_value : θ_run defs (onTc (τ := τ) (main (F := F))) ⟨m, fun _ => 0, ρ⟩ fun r => ∀ c : Dev nD,
      r.2.mem ((c : Thread nD τ).loc main_v52_0) = out0_4 (V m c main_arg0) (V m c main_arg1) (V m c main_v25) (V m c main_v51)
      ∧ r.2.mem ((c : Thread nD τ).loc main_v52_1) = out0_5 (V m c main_arg0) (V m c main_arg1) (V m c main_v25) (V m c main_v51)
      ∧ r.2.mem ((c : Thread nD τ).loc main_v52_2) = out0_6 (V m c main_arg0) (V m c main_arg1) (V m c main_v25) (V m c main_v51)
      ∧ r.2.mem ((c : Thread nD τ).loc main_v52_3) = out0_7 (V m c main_arg0) (V m c main_arg1) (V m c main_v25) (V m c main_v51)
      ∧ r.2.mem ((c : Thread nD τ).loc main_v52_4) = out0_8 (V m c main_arg0) (V m c main_arg1) (V m c main_v25) (V m c main_v51)
      ∧ r.2.mem ((c : Thread nD τ).loc main_v52_5) = out0_9 (V m c main_arg0) (V m c main_arg1) (V m c main_v25) (V m c main_v51)
      ∧ r.2.mem ((c : Thread nD τ).loc main_v52_6) = out0_10 (V m c main_arg0) (V m c main_arg1) (V m c main_v25) (V m c main_v51)
      ∧ r.2.mem ((c : Thread nD τ).loc main_v52_7) = out0_11 (V m c main_arg0) (V m c main_arg1) (V m c main_v25) (V m c main_v51)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post4 m r h c, post5 m r h c, post6 m r h c, post7 m r h c, post8 m r h c, post9 m r h c, post10 m r h c, post11 m r h c, kept_main_arg0 m r h c, kept_main_arg1 m r h c, kept_main_arg2 m r h c, kept_main_arg3 m r h c, kept_main_arg4 m r h c, kept_main_arg5 m r h c⟩)
    (run_main m ρ)

end Cert.ReferenceIdeal.Value

end
-- ==== Proof.RSpec.lean ====
/- The reference's results at extended reals, element by element, as the mathematics of the layer. -/
module

public import proofs.«01_k».proof.Proof.Gen.ReferenceIdeal.Frame
public import proofs.«01_k».proof.Proof.Spec
public import Idealize.ShloMosaic.Lib.Pipeline.Value
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)
open Cert.PSpec

variable (x0 : Vec Ideal S8x256x1024 .bf16) (x1 : Vec Ideal S1024 .f32) (x2 : Vec Ideal S1024x6912 .bf16) (x3 : Vec Ideal S2816x1024 .bf16)
variable (b : Fin 8) (i : Fin 256)

/-- A normalised row. -/
def row : Fin 1024 → EReal := xn (fun k => x0 (ix3 b i k)) (fun k => x1 (ix1 k))
/-- The hidden row. -/
def hrow : Fin 2816 → EReal := hid (row x0 x1 b i) (fun k n => x2 (ix2 k n))

/-- The largest code, as a literal. -/
abbrev cmx : Ideal .f32 := Scalar.ofBits .f32 0x43E00000#32

theorem z1 : (![0] : Fin 1 → ℕ) = fun _ => 0 := by decide
theorem z2 : (![0, 0] : Fin 2 → ℕ) = fun _ => 0 := by decide
theorem z3 : (![0, 0, 0] : Fin 3 → ℕ) = fun _ => 0 := by decide

theorem pay2_at (j : Fin 1024) : k0_pay2 x0 x1 (ix3 b i j) = row x0 x1 b i j := by
  pointwise [k0_pay2, k0_pay1, row, xn]

/-- The exponents of a column of maxima, as the program computes them. -/
def exV (t : FVec Ideal S8x256x1 .f32) : FVec Ideal S8x256x1 .f32 :=
  select (andi (cmpf .oge t (broadcast S8x256x1 (Scalar.ofBits .f32 0x00800000#32))) (cmpf .olt t (broadcast S8x256x1 (Scalar.ofBits .f32 0x7E800000#32))))
    (addf (floor (divf (log t) (log (broadcast S8x256x1 (Scalar.ofBits .f32 0x40000000#32))))) (broadcast S8x256x1 (Scalar.ofBits .f32 0x3F800000#32)))
    (broadcast S8x256x1 (Scalar.ofBits .f32 0x00000000#32))

theorem exV_at (t : FVec Ideal S8x256x1 .f32) : exV t (ix3 b i 0) = ex (t (ix3 b i 0)) := by
  pointwise [exV]
  exact ex_of _ _ _

theorem exp2_at (z : FVec Ideal S8x256x1 .f32) (j) : exp2 z j = Ideal.exp2 (z j) := rfl

theorem over_at (u : FVec Ideal S8x256 .f32) :
    mulf (shapeCast S8x256x1 u shapeCasts_S8x256_S8x256x1) (broadcast S8x256x1 (Scalar.ofBits .f32 0x3B124925#32)) (ix3 b i 0)
      = u (ix2 b i) * Ideal.ofBits .f32 991054117#32 := by
  pointwise

/-- A row's largest magnitude over 448, as the program computes it. -/
def amX (v : FVec Ideal S8x256x1024 .f32) : FVec Ideal S8x256x1 .f32 :=
  mulf (shapeCast S8x256x1 (multiReduction .maximumf [2] S8x256 (absf v) 0xFF800000#32 reduces_S8x256x1024_S8x256 (.inl rfl) rfl) shapeCasts_S8x256_S8x256x1)
    (broadcast S8x256x1 (Scalar.ofBits .f32 0x3B124925#32))

theorem maxX_at (v : FVec Ideal S8x256x1024 .f32) (f : Fin 1024 → EReal) (h : ∀ j, v (ix3 b i j) = f j) :
    multiReduction .maximumf [2] S8x256 (absf v) 0xFF800000#32 reduces_S8x256x1024_S8x256 (.inl rfl) rfl (ix2 b i) = rowMax f := by
  pointwise
  unfold rowMax
  simp only [h]

theorem amX_at (v : FVec Ideal S8x256x1024 .f32) (f : Fin 1024 → EReal) (h : ∀ j, v (ix3 b i j) = f j) : amX v (ix3 b i 0) = amax f := by
  unfold amX amax
  rw [over_at, maxX_at b i v f h]

/-- The scaled and lower-clipped values, as the program computes them. -/
def loX (v : FVec Ideal S8x256x1024 .f32) (e : FVec Ideal S8x256x1 .f32) : FVec Ideal S8x256x1024 .f32 :=
  maximumf (broadcast S8x256x1024 (Scalar.ofBits .f32 0xC3E00000#32))
    (mulf v (broadcastTo S8x256x1024 (exp2 (subf (broadcast S8x256x1 (Scalar.ofBits .f32 0x00000000#32)) e)) broadcasts_S8x256x1_S8x256x1024))

theorem loX_at (v : FVec Ideal S8x256x1024 .f32) (e : FVec Ideal S8x256x1 .f32) (j : Fin 1024) :
    loX v e (ix3 b i j) = max (Ideal.ofBits .f32 3286237184#32) (v (ix3 b i j) * Ideal.exp2 (0 - e (ix3 b i 0))) := by
  pointwise [loX]
  rw [exp2_def]

/-- A row's largest magnitude over 448, as the program computes it. -/
def amH (v : FVec Ideal S8x256x2816 .f32) : FVec Ideal S8x256x1 .f32 :=
  mulf (shapeCast S8x256x1 (multiReduction .maximumf [2] S8x256 (absf v) 0xFF800000#32 reduces_S8x256x2816_S8x256 (.inl rfl) rfl) shapeCasts_S8x256_S8x256x1)
    (broadcast S8x256x1 (Scalar.ofBits .f32 0x3B124925#32))

theorem maxH_at (v : FVec Ideal S8x256x2816 .f32) (f : Fin 2816 → EReal) (h : ∀ j, v (ix3 b i j) = f j) :
    multiReduction .maximumf [2] S8x256 (absf v) 0xFF800000#32 reduces_S8x256x2816_S8x256 (.inl rfl) rfl (ix2 b i) = rowMax f := by
  pointwise
  unfold rowMax
  simp only [h]

theorem amH_at (v : FVec Ideal S8x256x2816 .f32) (f : Fin 2816 → EReal) (h : ∀ j, v (ix3 b i j) = f j) : amH v (ix3 b i 0) = amax f := by
  unfold amH amax
  rw [over_at, maxH_at b i v f h]

/-- The scaled and lower-clipped values, as the program computes them. -/
def loH (v : FVec Ideal S8x256x2816 .f32) (e : FVec Ideal S8x256x1 .f32) : FVec Ideal S8x256x2816 .f32 :=
  maximumf (broadcast S8x256x2816 (Scalar.ofBits .f32 0xC3E00000#32))
    (mulf v (broadcastTo S8x256x2816 (exp2 (subf (broadcast S8x256x1 (Scalar.ofBits .f32 0x00000000#32)) e)) broadcasts_S8x256x1_S8x256x2816))

theorem loH_at (v : FVec Ideal S8x256x2816 .f32) (e : FVec Ideal S8x256x1 .f32) (j : Fin 2816) :
    loH v e (ix3 b i j) = max (Ideal.ofBits .f32 3286237184#32) (v (ix3 b i j) * Ideal.exp2 (0 - e (ix3 b i 0))) := by
  pointwise [loH]
  rw [exp2_def]

theorem pay3_eq : k0_pay3 x0 x1 = exV (amX (k0_pay2 x0 x1)) := rfl
theorem pay4_eq : k0_pay4 x0 x1 = exp2 (k0_pay3 x0 x1) := rfl
theorem pay5_eq : k0_pay5 x0 x1 = loX (k0_pay2 x0 x1) (k0_pay3 x0 x1) := rfl

theorem pay3_at : k0_pay3 x0 x1 (ix3 b i 0) = ex (amax (row x0 x1 b i)) := by
  rw [pay3_eq, exV_at, amX_at b i _ (row x0 x1 b i) (pay2_at x0 x1 b i)]

theorem pay23_at : k0_pay23 x0 x1 x2 x3 (ix3 b i 0) = scl (row x0 x1 b i) := by
  unfold k0_pay23 scl
  rw [View.ld_unit_zero z3, View.ld_unit_zero z1, pay4_eq, exp2_at, pay3_at]

theorem pay24_at (j : Fin 1024) : k0_pay24 x0 x1 x2 x3 (ix3 b i j)
    = max (Ideal.ofBits .f32 3286237184#32) (row x0 x1 b i j * Ideal.exp2 (0 - ex (amax (row x0 x1 b i)))) := by
  unfold k0_pay24
  rw [View.ld_unit_zero z3, View.ld_unit_zero z1, pay5_eq, loX_at, pay3_at, pay2_at]

theorem pay7_at (n : Fin 6912) : k0_pay7 (k0_pay23 x0 x1 x2 x3) cmx (k0_pay24 x0 x1 x2 x3) x2 (ix3 b i n)
    = prod (row x0 x1 b i) (fun k => x2 (ix2 k n)) := by
  unfold k0_pay7 k0_pay6 prod code cmx
  pointwise
  simp only [pay23_at, pay24_at]

theorem pay11_at (n : Fin 2816) : k0_pay11 (k0_pay23 x0 x1 x2 x3) cmx (k0_pay24 x0 x1 x2 x3) x2 (ix3 b i n) = hrow x0 x1 x2 b i n := by
  unfold k0_pay11 hrow hid
  generalize hz : k0_pay7 (k0_pay23 x0 x1 x2 x3) cmx (k0_pay24 x0 x1 x2 x3) x2 = z
  pointwise
  subst hz
  simp only [pay7_at]

theorem pay12_eq (s : FVec Ideal S8x256x1 .f32) (c : Ideal .f32) (l : FVec Ideal S8x256x1024 .f32) (w : Vec Ideal S1024x6912 .bf16) :
    k0_pay12 s c l w = exV (amH (k0_pay11 s c l w)) := rfl
theorem pay13_eq (s : FVec Ideal S8x256x1 .f32) (c : Ideal .f32) (l : FVec Ideal S8x256x1024 .f32) (w : Vec Ideal S1024x6912 .bf16) :
    k0_pay13 s c l w = exp2 (k0_pay12 s c l w) := rfl
theorem pay14_eq (s : FVec Ideal S8x256x1 .f32) (c : Ideal .f32) (l : FVec Ideal S8x256x1024 .f32) (w : Vec Ideal S1024x6912 .bf16) :
    k0_pay14 s c l w = loH (k0_pay11 s c l w) (k0_pay12 s c l w) := rfl

theorem pay12_at : k0_pay12 (k0_pay23 x0 x1 x2 x3) cmx (k0_pay24 x0 x1 x2 x3) x2 (ix3 b i 0) = ex (amax (hrow x0 x1 x2 b i)) := by
  rw [pay12_eq, exV_at, amH_at b i _ (hrow x0 x1 x2 b i) (pay11_at x0 x1 x2 x3 b i)]

theorem pay25_at : k0_pay25 x0 x1 x2 x3 (ix3 b i 0) = scl (hrow x0 x1 x2 b i) := by
  unfold k0_pay25 scl
  rw [View.ld_unit_zero z2, pay13_eq, exp2_at, pay12_at]

theorem pay26_at (j : Fin 2816) : k0_pay26 x0 x1 x2 x3 (ix3 b i j)
    = max (Ideal.ofBits .f32 3286237184#32) (hrow x0 x1 x2 b i j * Ideal.exp2 (0 - ex (amax (hrow x0 x1 x2 b i)))) := by
  unfold k0_pay26
  rw [View.ld_unit_zero z2, pay14_eq, loH_at, pay12_at, pay11_at]

theorem q_at (n : Fin 1024) : out0_4 x0 x1 x2 x3 (ix3 b n i) = prod (row x0 x1 b i) (fun k => x2 (ix2 k ⟨n.val, by omega⟩)) := by
  unfold out0_4 k0_pay17 k0_pay8
  rw [View.canon_unit_zero z3, View.ld_unit_zero z2, ← pay7_at x0 x1 x2 x3]
  generalize k0_pay7 (F := Ideal) _ _ _ _ = z
  pointwise

theorem k_at (n : Fin 128) : out0_5 x0 x1 x2 x3 (ix3 b n i) = prod (row x0 x1 b i) (fun k => x2 (ix2 k ⟨1024 + n.val, by omega⟩)) := by
  unfold out0_5 k0_pay18 k0_pay9
  rw [View.canon_unit_zero z3, View.ld_unit_zero z2, ← pay7_at x0 x1 x2 x3]
  generalize k0_pay7 (F := Ideal) _ _ _ _ = z
  pointwise

theorem v_at (n : Fin 128) : out0_6 x0 x1 x2 x3 (ix3 b n i) = prod (row x0 x1 b i) (fun k => x2 (ix2 k ⟨1152 + n.val, by omega⟩)) := by
  unfold out0_6 k0_pay19 k0_pay10
  rw [View.canon_unit_zero z3, View.ld_unit_zero z2, ← pay7_at x0 x1 x2 x3]
  generalize k0_pay7 (F := Ideal) _ _ _ _ = z
  pointwise

theorem y_at (n : Fin 1024) : out0_7 x0 x1 x2 x3 (ix3 b i n) = x0 (ix3 b i n) + prod (hrow x0 x1 x2 b i) (fun k => x3 (ix2 k n)) := by
  unfold out0_7 k0_pay20 k0_pay16 k0_pay1 k0_pay27 k0_pay15 prod code
  rw [View.canon_unit_zero z3, View.ld_unit_zero z3, View.ld_unit_zero z2, ← pay25_at x0 x1 x2 x3]
  simp only [← pay26_at x0 x1 x2 x3]
  generalize k0_pay25 (F := Ideal) _ _ _ _ = z
  generalize k0_pay26 (F := Ideal) _ _ _ _ = z'
  pointwise

theorem xc_at (j : Fin 1024) : out0_8 x0 x1 x2 x3 (ix3 b i j) = code (row x0 x1 b i) j := by
  unfold out0_8 k0_pay6 code
  rw [View.canon_unit_zero z3, ← pay24_at x0 x1 x2 x3]
  generalize k0_pay24 (F := Ideal) _ _ _ _ = z
  pointwise

theorem xs_at : out0_9 x0 x1 x2 x3 (ix2 b i) = scl (row x0 x1 b i) := by
  unfold out0_9 k0_pay21
  rw [View.canon_unit_zero z2, ← pay23_at x0 x1 x2 x3]
  generalize k0_pay23 (F := Ideal) _ _ _ _ = z
  pointwise

theorem hc_at (j : Fin 2816) : out0_10 x0 x1 x2 x3 (ix3 b i j) = code (hrow x0 x1 x2 b i) j := by
  unfold out0_10 k0_pay16 k0_pay27 k0_pay15 code
  rw [View.canon_unit_zero z3, ← pay26_at x0 x1 x2 x3]
  generalize k0_pay26 (F := Ideal) _ _ _ _ = z
  pointwise

theorem hs_at : out0_11 x0 x1 x2 x3 (ix2 b i) = scl (hrow x0 x1 x2 b i) := by
  unfold out0_11 k0_pay22
  rw [View.canon_unit_zero z2, ← pay25_at x0 x1 x2 x3]
  generalize k0_pay25 (F := Ideal) _ _ _ _ = z
  pointwise

end Cert.ReferenceIdeal.Value

end
-- ==== Proof.RWts.lean ====
/- The reference's two weight matrices, as the host computes them, element by element. -/
module

public import proofs.«01_k».proof.Proof.Gen.ReferenceIdeal.Frame
public import proofs.«01_k».proof.Proof.Spec
public import Idealize.ShloMosaic.Lib.StableHlo.ReadAt

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.PSpec

variable (m : (ℓ : Loc nD τ sig) → Buf (Elt Ideal) ℓ) (c : Dev nD)

theorem shr_eq (x : BitVec 32) : IntOp.shrsi .host x 4#32 = IntOp.shrsi .scalar x 4#32 := by
  unfold IntOp.shrsi
  rw [if_pos (by decide), if_pos (by decide)]

/-- The low and the high code of a byte, as the host reads them. -/
theorem lo_code (b : BitVec 8) (r : ℕ) (h : r < 1) : FloatOps.sitofp (F := Ideal) .bf16 (Scalar.select (IntOp.cmpi .sge (IntOp.andi (BitVec.setWidth 32 b) 15#32) 8#32) (IntOp.subi (IntOp.andi (BitVec.setWidth 32 b) 15#32) 16#32) (IntOp.andi (BitVec.setWidth 32 b) 15#32)) = wnib b r := by
  unfold wnib nib sgn4
  rw [if_pos h]
theorem hi_code (b : BitVec 8) (r : ℕ) (h : ¬ r < 1) : FloatOps.sitofp (F := Ideal) .bf16 (Scalar.select (IntOp.cmpi .sge (IntOp.shrsi .host (BitVec.setWidth 32 b) 4#32) 8#32) (IntOp.subi (IntOp.shrsi .host (BitVec.setWidth 32 b) 4#32) 16#32) (IntOp.shrsi .host (BitVec.setWidth 32 b) 4#32)) = wnib b r := by
  unfold wnib nib sgn4
  rw [if_neg h, shr_eq]

theorem w1_at (k : Fin 1024) (n : Fin 6912) : (V m c main_v25 (ix2 k n) : EReal)
    = wnib (m ((c : Thread nD τ).loc main_arg2) (ix2 ⟨k.val / 2, by omega⟩ n)) (k.val % 2) * m ((c : Thread nD τ).loc main_arg3) (ix2 ⟨k.val / 128, by omega⟩ n) := by
  have e : k.val / 128 * 128 + k.val % 128 = k.val := by omega
  unfold V
  after_reads_at
  split
  · rename_i h
    after_reads_at
    simp only [e] at h ⊢
    rw [lo_code _ _ h]
  · rename_i h
    after_reads_at
    simp only [e] at h ⊢
    rw [hi_code _ _ h]

theorem w2_at (k : Fin 2816) (n : Fin 1024) : (V m c main_v51 (ix2 k n) : EReal)
    = wnib (m ((c : Thread nD τ).loc main_arg4) (ix2 ⟨k.val / 2, by omega⟩ n)) (k.val % 2) * m ((c : Thread nD τ).loc main_arg5) (ix2 ⟨k.val / 128, by omega⟩ n) := by
  have e : k.val / 128 * 128 + k.val % 128 = k.val := by omega
  unfold V
  after_reads_at
  split
  · rename_i h
    after_reads_at
    simp only [e] at h ⊢
    rw [lo_code _ _ h]
  · rename_i h
    after_reads_at
    simp only [e] at h ⊢
    rw [hi_code _ _ h]

end Cert.ReferenceIdeal.Value

end
-- ==== Proof.Alg.lean ====
/- The two programs agree: result by result, the kernel's arrays are the reference's. -/
module

public import proofs.«01_k».proof.Defs
public import proofs.«01_k».proof.Proof.KMem
public import proofs.«01_k».proof.Proof.RValue
public import proofs.«01_k».proof.Proof.RSpec
public import proofs.«01_k».proof.Proof.RWts
public import Idealize.ShloMosaic.Lib.Claim

@[expose] public section

set_option maxRecDepth 16384

noncomputable section

namespace Cert.Alg

open Idealize.ShloMosaic Idealize.ShloMosaic.TcCoe Idealize.SL.Sem
open Cert.PSpec

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The two launches agree on the arguments. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

/-- The reference's four staged operands. -/
abbrev R0 : Vec Ideal Cert.ReferenceIdeal.S8x256x1024 .bf16 := Cert.ReferenceIdeal.Gen.V m' c Cert.ReferenceIdeal.main_arg0
abbrev R1 : Vec Ideal Cert.ReferenceIdeal.S1024 .f32 := Cert.ReferenceIdeal.Gen.V m' c Cert.ReferenceIdeal.main_arg1
abbrev R2 : Vec Ideal Cert.ReferenceIdeal.S1024x6912 .bf16 := Cert.ReferenceIdeal.Gen.V m' c Cert.ReferenceIdeal.main_v25
abbrev R3 : Vec Ideal Cert.ReferenceIdeal.S2816x1024 .bf16 := Cert.ReferenceIdeal.Gen.V m' c Cert.ReferenceIdeal.main_v51

theorem r0 (h : Same m m' c) : R0 m' c = Cert.KernelIdeal.Run.a0 m c :=
  (Cert.ReferenceIdeal.Gen.V_main_arg0 m' c).trans h.1
theorem r1 (h : Same m m' c) : R1 m' c = Cert.KernelIdeal.Run.a1 m c :=
  (Cert.ReferenceIdeal.Gen.V_main_arg1 m' c).trans h.2.1
theorem r2 (h : Same m m' c) (k : Fin 1024) (n : Fin 6912) :
    R2 m' c (ix2 k n) = Cert.KernelIdeal.Run.w1G (Cert.KernelIdeal.Run.a2 m c) (Cert.KernelIdeal.Run.a3 m c) k n := by
  refine (Cert.ReferenceIdeal.Value.w1_at m' c k n).trans ?_
  rw [h.2.2.1, h.2.2.2.1]
  rfl
theorem r3 (h : Same m m' c) (k : Fin 2816) (n : Fin 1024) :
    R3 m' c (ix2 k n) = Cert.KernelIdeal.Run.w2G (Cert.KernelIdeal.Run.a4 m c) (Cert.KernelIdeal.Run.a5 m c) k n := by
  refine (Cert.ReferenceIdeal.Value.w2_at m' c k n).trans ?_
  rw [h.2.2.2.2.1, h.2.2.2.2.2]
  rfl

theorem row_eq (h : Same m m' c) (b : Fin 8) (i : Fin 256) :
    Cert.ReferenceIdeal.Value.row (R0 m' c) (R1 m' c) b i = Cert.KernelIdeal.Run.frow m c b i := by
  unfold Cert.ReferenceIdeal.Value.row
  rw [r0 m m' c h, r1 m m' c h]
  rfl

theorem hrow_eq (h : Same m m' c) (b : Fin 8) (i : Fin 256) :
    Cert.ReferenceIdeal.Value.hrow (R0 m' c) (R1 m' c) (R2 m' c) b i = Cert.KernelIdeal.Run.hidr m c b i := by
  unfold Cert.ReferenceIdeal.Value.hrow Cert.KernelIdeal.Run.hidr
  rw [row_eq m m' c h]
  simp only [r2 m m' c h]

theorem q_pt (h : Same m m' c) (b : Fin 8) (n : Fin 1024) (i : Fin 256) :
    Cert.ReferenceIdeal.Gen.out0_4 (R0 m' c) (R1 m' c) (R2 m' c) (R3 m' c) (ix3 b n i) = Cert.KernelIdeal.Run.G6 m c (ix3 b n i) := by
  rw [Cert.ReferenceIdeal.Value.q_at (R0 m' c) (R1 m' c) (R2 m' c) (R3 m' c) b i n, Cert.KernelIdeal.Run.q_at m c b n i, row_eq m m' c h]
  simp only [r2 m m' c h]

theorem q_eq (h : Same m m' c) : Cert.ReferenceIdeal.Gen.out0_4 (R0 m' c) (R1 m' c) (R2 m' c) (R3 m' c) = Cert.KernelIdeal.Run.G6 m c := by
  funext y
  have e : y = (ix3 (y 0) (y 1) (y 2) : Cert.KernelIdeal.S8x1024x256.Idx) := by funext a; fin_cases a <;> rfl
  exact (congrArg _ e).trans ((q_pt m m' c h (y 0) (y 1) (y 2)).trans (congrArg (Cert.KernelIdeal.Run.G6 m c) e.symm))

theorem k_pt (h : Same m m' c) (b : Fin 8) (n : Fin 128) (i : Fin 256) :
    Cert.ReferenceIdeal.Gen.out0_5 (R0 m' c) (R1 m' c) (R2 m' c) (R3 m' c) (ix3 b n i) = Cert.KernelIdeal.Run.G7 m c (ix3 b n i) := by
  rw [Cert.ReferenceIdeal.Value.k_at (R0 m' c) (R1 m' c) (R2 m' c) (R3 m' c) b i n, Cert.KernelIdeal.Run.k_at m c b n i, row_eq m m' c h]
  simp only [r2 m m' c h]

theorem k_eq (h : Same m m' c) : Cert.ReferenceIdeal.Gen.out0_5 (R0 m' c) (R1 m' c) (R2 m' c) (R3 m' c) = Cert.KernelIdeal.Run.G7 m c := by
  funext y
  have e : y = (ix3 (y 0) (y 1) (y 2) : Cert.KernelIdeal.S8x128x256.Idx) := by funext a; fin_cases a <;> rfl
  exact (congrArg _ e).trans ((k_pt m m' c h (y 0) (y 1) (y 2)).trans (congrArg (Cert.KernelIdeal.Run.G7 m c) e.symm))

theorem v_pt (h : Same m m' c) (b : Fin 8) (n : Fin 128) (i : Fin 256) :
    Cert.ReferenceIdeal.Gen.out0_6 (R0 m' c) (R1 m' c) (R2 m' c) (R3 m' c) (ix3 b n i) = Cert.KernelIdeal.Run.G8 m c (ix3 b n i) := by
  rw [Cert.ReferenceIdeal.Value.v_at (R0 m' c) (R1 m' c) (R2 m' c) (R3 m' c) b i n, Cert.KernelIdeal.Run.v_at m c b n i, row_eq m m' c h]
  simp only [r2 m m' c h]

theorem v_eq (h : Same m m' c) : Cert.ReferenceIdeal.Gen.out0_6 (R0 m' c) (R1 m' c) (R2 m' c) (R3 m' c) = Cert.KernelIdeal.Run.G8 m c := by
  funext y
  have e : y = (ix3 (y 0) (y 1) (y 2) : Cert.KernelIdeal.S8x128x256.Idx) := by funext a; fin_cases a <;> rfl
  exact (congrArg _ e).trans ((v_pt m m' c h (y 0) (y 1) (y 2)).trans (congrArg (Cert.KernelIdeal.Run.G8 m c) e.symm))

theorem y_pt (h : Same m m' c) (b : Fin 8) (i : Fin 256) (n : Fin 1024) :
    Cert.ReferenceIdeal.Gen.out0_7 (R0 m' c) (R1 m' c) (R2 m' c) (R3 m' c) (ix3 b i n) = Cert.KernelIdeal.Run.G9 m c (ix3 b i n) := by
  rw [Cert.ReferenceIdeal.Value.y_at (R0 m' c) (R1 m' c) (R2 m' c) (R3 m' c) b i n, Cert.KernelIdeal.Run.y_at m c b i n, hrow_eq m m' c h]
  rw [r0 m m' c h]
  simp only [r3 m m' c h]

theorem y_eq (h : Same m m' c) : Cert.ReferenceIdeal.Gen.out0_7 (R0 m' c) (R1 m' c) (R2 m' c) (R3 m' c) = Cert.KernelIdeal.Run.G9 m c := by
  funext y
  have e : y = (ix3 (y 0) (y 1) (y 2) : Cert.KernelIdeal.S8x256x1024.Idx) := by funext a; fin_cases a <;> rfl
  exact (congrArg _ e).trans ((y_pt m m' c h (y 0) (y 1) (y 2)).trans (congrArg (Cert.KernelIdeal.Run.G9 m c) e.symm))

theorem xc_pt (h : Same m m' c) (b : Fin 8) (i : Fin 256) (n : Fin 1024) :
    Cert.ReferenceIdeal.Gen.out0_8 (R0 m' c) (R1 m' c) (R2 m' c) (R3 m' c) (ix3 b i n) = Cert.KernelIdeal.Run.G10 m c (ix3 b i n) := by
  rw [Cert.ReferenceIdeal.Value.xc_at (R0 m' c) (R1 m' c) (R2 m' c) (R3 m' c) b i n, Cert.KernelIdeal.Run.xc_at m c b i n, row_eq m m' c h]

theorem xc_eq (h : Same m m' c) : Cert.ReferenceIdeal.Gen.out0_8 (R0 m' c) (R1 m' c) (R2 m' c) (R3 m' c) = Cert.KernelIdeal.Run.G10 m c := by
  funext y
  have e : y = (ix3 (y 0) (y 1) (y 2) : Cert.KernelIdeal.S8x256x1024.Idx) := by funext a; fin_cases a <;> rfl
  exact (congrArg _ e).trans ((xc_pt m m' c h (y 0) (y 1) (y 2)).trans (congrArg (Cert.KernelIdeal.Run.G10 m c) e.symm))

theorem xs_pt (h : Same m m' c) (b : Fin 8) (i : Fin 256) :
    Cert.ReferenceIdeal.Gen.out0_9 (R0 m' c) (R1 m' c) (R2 m' c) (R3 m' c) (ix2 b i) = Cert.KernelIdeal.Run.G11 m c (ix2 b i) := by
  rw [Cert.ReferenceIdeal.Value.xs_at (R0 m' c) (R1 m' c) (R2 m' c) (R3 m' c) b i, Cert.KernelIdeal.Run.rxsc_at m c b i, row_eq m m' c h]

theorem xs_eq (h : Same m m' c) : Cert.ReferenceIdeal.Gen.out0_9 (R0 m' c) (R1 m' c) (R2 m' c) (R3 m' c) = Cert.KernelIdeal.Run.G11 m c := by
  funext y
  have e : y = (ix2 (y 0) (y 1) : Cert.KernelIdeal.S8x256.Idx) := by funext a; fin_cases a <;> rfl
  exact (congrArg _ e).trans ((xs_pt m m' c h (y 0) (y 1)).trans (congrArg (Cert.KernelIdeal.Run.G11 m c) e.symm))

theorem hc_pt (h : Same m m' c) (b : Fin 8) (i : Fin 256) (n : Fin 2816) :
    Cert.ReferenceIdeal.Gen.out0_10 (R0 m' c) (R1 m' c) (R2 m' c) (R3 m' c) (ix3 b i n) = Cert.KernelIdeal.Run.G12 m c (ix3 b i n) := by
  rw [Cert.ReferenceIdeal.Value.hc_at (R0 m' c) (R1 m' c) (R2 m' c) (R3 m' c) b i n, Cert.KernelIdeal.Run.hc_at m c b i n, hrow_eq m m' c h]

theorem hc_eq (h : Same m m' c) : Cert.ReferenceIdeal.Gen.out0_10 (R0 m' c) (R1 m' c) (R2 m' c) (R3 m' c) = Cert.KernelIdeal.Run.G12 m c := by
  funext y
  have e : y = (ix3 (y 0) (y 1) (y 2) : Cert.KernelIdeal.S8x256x2816.Idx) := by funext a; fin_cases a <;> rfl
  exact (congrArg _ e).trans ((hc_pt m m' c h (y 0) (y 1) (y 2)).trans (congrArg (Cert.KernelIdeal.Run.G12 m c) e.symm))

theorem hs_pt (h : Same m m' c) (b : Fin 8) (i : Fin 256) :
    Cert.ReferenceIdeal.Gen.out0_11 (R0 m' c) (R1 m' c) (R2 m' c) (R3 m' c) (ix2 b i) = Cert.KernelIdeal.Run.G13 m c (ix2 b i) := by
  rw [Cert.ReferenceIdeal.Value.hs_at (R0 m' c) (R1 m' c) (R2 m' c) (R3 m' c) b i, Cert.KernelIdeal.Run.rhsc_at m c b i, hrow_eq m m' c h]

theorem hs_eq (h : Same m m' c) : Cert.ReferenceIdeal.Gen.out0_11 (R0 m' c) (R1 m' c) (R2 m' c) (R3 m' c) = Cert.KernelIdeal.Run.G13 m c := by
  funext y
  have e : y = (ix2 (y 0) (y 1) : Cert.KernelIdeal.S8x256.Idx) := by funext a; fin_cases a <;> rfl
  exact (congrArg _ e).trans ((hs_pt m m' c h (y 0) (y 1)).trans (congrArg (Cert.KernelIdeal.Run.G13 m c) e.symm))

/-- From launches that agree on the arguments, both programs end with equal results and unchanged arguments. -/
theorem algebraic [hKernelIdeal : Cert.KernelIdeal.Facts] [hReferenceIdeal : Cert.ReferenceIdeal.Facts] : Cert.algebraic_KernelIdeal_ReferenceIdeal := by
  intro m g m' g' _ hs
  refine ⟨Cert.KernelIdeal.Run.G6 m, Cert.KernelIdeal.Run.G7 m, Cert.KernelIdeal.Run.G8 m, Cert.KernelIdeal.Run.G9 m, Cert.KernelIdeal.Run.G10 m, Cert.KernelIdeal.Run.G11 m, Cert.KernelIdeal.Run.G12 m, Cert.KernelIdeal.Run.G13 m, ?_, ?_⟩
  · refine (θ_run _ _ _).mono ?_ (θ_run_and (Cert.KernelIdeal.Run.run_value m g) (Cert.KernelIdeal.Run.unchanged m g))
    intro r h c
    obtain ⟨e0, e1, e2, e3, e4, e5, e6, e7⟩ := h.1 c
    exact ⟨e0, e1, e2, e3, e4, e5, e6, e7, h.2 c⟩
  · refine (θ_run _ _ _).mono ?_ (Cert.ReferenceIdeal.Value.run_value m' g')
    intro r h c
    obtain ⟨e0, e1, e2, e3, e4, e5, e6, e7, ha⟩ := h c
    exact ⟨e0.trans (q_eq m m' c (hs c)), e1.trans (k_eq m m' c (hs c)), e2.trans (v_eq m m' c (hs c)), e3.trans (y_eq m m' c (hs c)), e4.trans (xc_eq m m' c (hs c)), e5.trans (xs_eq m m' c (hs c)), e6.trans (hc_eq m m' c (hs c)), e7.trans (hs_eq m m' c (hs c)), ha⟩

end Cert.Alg

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.BFrame
public import proofs.«01_k».proof.Proof.KFrame
public import proofs.«01_k».proof.Proof.Alg
public import Idealize.ShloMosaic.Adequacy
public import Idealize.ShloMosaic.Init

@[expose] public section

noncomputable section

namespace Cert.Proof

open Idealize.ShloMosaic Idealize.SL.Sem

/-- The five claims: the three programs run and leave their arguments as they were, the ideal program is the kernel
    over the extended reals, and there the kernel and the reference compute the same eight arrays. -/
theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Gen.frame m ρ, trivial, Cert.Alg.algebraic⟩

end Cert.Proof

end
